-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 2048]⟩ ⟨3, ![4, 1024, 2048]⟩ (Layout.meshBlock [2, 4, 4] ![[1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 512]⟩ ⟨2, ![1024, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x2048 : Shape := ⟨3, ![1, 1024, 2048]⟩
abbrev S1024x512 : Shape := ⟨2, ![1024, 512]⟩
abbrev S4x3x128x128 : Shape := ⟨4, ![4, 3, 128, 128]⟩
abbrev S4x3 : Shape := ⟨2, ![4, 3]⟩
abbrev S4x4 : Shape := ⟨2, ![4, 4]⟩
abbrev S_ : Shape := ⟨0, ![]⟩
abbrev S1x128x128 : Shape := ⟨3, ![1, 128, 128]⟩
abbrev S128x128 : Shape := ⟨2, ![128, 128]⟩
abbrev S1x1x128x128 : Shape := ⟨4, ![1, 1, 128, 128]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S1x1024x2048, .f32⟩
  | .hbm, ⟨1, _⟩ => ⟨S1024x512, .f32⟩
  | .local _ .vmem, ⟨0, _⟩ => ⟨S1x1024x2048, .f32⟩
  | .local _ .vmem, ⟨1, _⟩ => ⟨S1024x512, .f32⟩
  | .local _ .vmem, ⟨2, _⟩ => ⟨S4x3x128x128, .f32⟩
  | .local _ .vmem, ⟨3, _⟩ => ⟨S4x3x128x128, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_31 : BitVec 32 := 16#32
  let v55 : BitVec 32 := Scalar.muli v2 c16_i32_31
  let v56 : BitVec 32 := Scalar.addi c0_i32_32 v55
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_33 : BitVec 32 := 4#32
  let v57 : BitVec 32 := Scalar.muli v19 c4_i32_33
  let v58 : BitVec 32 := Scalar.addi v56 v57
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v59 : BitVec 32 := Scalar.muli v8 c1_i32_34
  let v60 : BitVec 32 := Scalar.addi v58 v59
  v60.toNat
def k0_dev2 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v61 : BitVec 32 := Scalar.muli v2 c16_i32_36
  let v62 : BitVec 32 := Scalar.addi c0_i32_37 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_38 : BitVec 32 := 4#32
  let v63 : BitVec 32 := Scalar.muli v30 c4_i32_38
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v65 : BitVec 32 := Scalar.muli v8 c1_i32_39
  let v66 : BitVec 32 := Scalar.addi v64 v65
  v66.toNat
def k0_dev3 (d0 : Dev nD) : Nat :=
  let c0_i32_42 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_41 : BitVec 32 := 16#32
  let v67 : BitVec 32 := Scalar.muli v2 c16_i32_41
  let v68 : BitVec 32 := Scalar.addi c0_i32_42 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_43 : BitVec 32 := 4#32
  let v69 : BitVec 32 := Scalar.muli v5 c4_i32_43
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v42 : BitVec 32 := Scalar.subi v8 c1_i32_22
  let c4_i32_23 : BitVec 32 := 4#32
  let c0_i32_24 : BitVec 32 := 0#32
  let v43 : BitVec 1 := Scalar.cmpi .eq c4_i32_23 c0_i32_24
  let c1_i32_25 : BitVec 32 := 1#32
  let v44 : BitVec 32 := Scalar.select v43 c1_i32_25 c4_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c1_i32_44 : BitVec 32 := 1#32
  let v71 : BitVec 32 := Scalar.muli v52 c1_i32_44
  let v72 : BitVec 32 := Scalar.addi v70 v71
  v72.toNat
def k0_dev4 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v73 : BitVec 32 := Scalar.muli v2 c16_i32_46
  let v74 : BitVec 32 := Scalar.addi c0_i32_47 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_48 : BitVec 32 := 4#32
  let v75 : BitVec 32 := Scalar.muli v5 c4_i32_48
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_49 : BitVec 32 := 1#32
  let v77 : BitVec 32 := Scalar.muli v41 c1_i32_49
  let v78 : BitVec 32 := Scalar.addi v76 v77
  v78.toNat
def k0_dev5 (d0 : Dev nD) : Nat :=
  let c0_i32_52 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_51 : BitVec 32 := 16#32
  let v79 : BitVec 32 := Scalar.muli v53 c16_i32_51
  let v80 : BitVec 32 := Scalar.addi c0_i32_52 v79
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v81 : BitVec 32 := Scalar.muli v5 c4_i32_53
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v83 : BitVec 32 := Scalar.muli v8 c1_i32_54
  let v84 : BitVec 32 := Scalar.addi v82 v83
  v84.toNat
def k0_off1 (d0 : Dev nD) (c0_i32_64 : BitVec 32) (c0_i32_56 : BitVec 32) : Fin 3 → Nat :=
  let c0 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_63 : BitVec 32 := 512#32
  let v100 : BitVec 32 := Scalar.muli v2 c512_i32_63
  let v101 : BitVec 32 := Scalar.addi v100 c0_i32_64
  let v102 : Index := Scalar.indexCast v101
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_55 : BitVec 32 := 1#32
  let v85 : BitVec 32 := Scalar.subi v5 c1_i32_55
  let v86 : BitVec 32 := Scalar.subi v85 c0_i32_56
  let c4_i32_57 : BitVec 32 := 4#32
  let c0_i32_58 : BitVec 32 := 0#32
  let v87 : BitVec 1 := Scalar.cmpi .eq c4_i32_57 c0_i32_58
  let c1_i32_59 : BitVec 32 := 1#32
  let v88 : BitVec 32 := Scalar.select v87 c1_i32_59 c4_i32_57
  let v89 : BitVec 32 := Scalar.remsi v86 v88
  let c0_i32_61 : BitVec 32 := 0#32
  let v91 : BitVec 1 := Scalar.cmpi .slt v89 c0_i32_61
  let c0_i32_62 : BitVec 32 := 0#32
  let v92 : BitVec 1 := Scalar.cmpi .slt v88 c0_i32_62
  let v93 : BitVec 1 := Scalar.xori v91 v92
  let c0_i32_60 : BitVec 32 := 0#32
  let v90 : BitVec 1 := Scalar.cmpi .ne v89 c0_i32_60
  let v94 : BitVec 1 := Scalar.andi v93 v90
  let v95 : BitVec 32 := Scalar.addi v89 v88
  let v96 : BitVec 32 := Scalar.select v94 v95 v89
  let c512_i32 : BitVec 32 := 512#32
  let v97 : BitVec 32 := Scalar.muli v96 c512_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32 : BitVec 32 := 128#32
  let v98 : BitVec 32 := Scalar.muli v8 c128_i32
  let v99 : BitVec 32 := Scalar.addi v97 v98
  let v103 : Index := Scalar.indexCast v99
  ![0, v102.toNat, v103.toNat]
def k0_dev6 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v109 : BitVec 32 := Scalar.muli v2 c16_i32_77
  let v110 : BitVec 32 := Scalar.addi c0_i32_78 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_79 : BitVec 32 := 4#32
  let v111 : BitVec 32 := Scalar.muli v30 c4_i32_79
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v113 : BitVec 32 := Scalar.muli v8 c1_i32_80
  let v114 : BitVec 32 := Scalar.addi v112 v113
  v114.toNat
def k0_dev7 (d0 : Dev nD) : Nat :=
  let c0_i32_102 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_101 : BitVec 32 := 16#32
  let v135 : BitVec 32 := Scalar.muli v2 c16_i32_101
  let v136 : BitVec 32 := Scalar.addi c0_i32_102 v135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_103 : BitVec 32 := 4#32
  let v137 : BitVec 32 := Scalar.muli v30 c4_i32_103
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v139 : BitVec 32 := Scalar.muli v8 c1_i32_104
  let v140 : BitVec 32 := Scalar.addi v138 v139
  v140.toNat
def k0_dev8 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v161 : BitVec 32 := Scalar.muli v2 c16_i32_124
  let v162 : BitVec 32 := Scalar.addi c0_i32_125 v161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_126 : BitVec 32 := 4#32
  let v163 : BitVec 32 := Scalar.muli v30 c4_i32_126
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v165 : BitVec 32 := Scalar.muli v8 c1_i32_127
  let v166 : BitVec 32 := Scalar.addi v164 v165
  v166.toNat
def k0_dev9 (d0 : Dev nD) : Nat :=
  let c0_i32_147 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_146 : BitVec 32 := 16#32
  let v187 : BitVec 32 := Scalar.muli v2 c16_i32_146
  let v188 : BitVec 32 := Scalar.addi c0_i32_147 v187
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_148 : BitVec 32 := 4#32
  let v189 : BitVec 32 := Scalar.muli v30 c4_i32_148
  let v190 : BitVec 32 := Scalar.addi v188 v189
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_149 : BitVec 32 := 1#32
  let v191 : BitVec 32 := Scalar.muli v8 c1_i32_149
  let v192 : BitVec 32 := Scalar.addi v190 v191
  v192.toNat
def k0_dev10 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v246 : BitVec 32 := Scalar.muli v2 c16_i32_212
  let v247 : BitVec 32 := Scalar.addi c0_i32_213 v246
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_214 : BitVec 32 := 4#32
  let v248 : BitVec 32 := Scalar.muli v30 c4_i32_214
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_215 : BitVec 32 := 1#32
  let v250 : BitVec 32 := Scalar.muli v8 c1_i32_215
  let v251 : BitVec 32 := Scalar.addi v249 v250
  v251.toNat
def k0_dev11 (d0 : Dev nD) : Nat :=
  let c0_i32_271 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_270 : BitVec 32 := 16#32
  let v293 : BitVec 32 := Scalar.muli v2 c16_i32_270
  let v294 : BitVec 32 := Scalar.addi c0_i32_271 v293
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_272 : BitVec 32 := 4#32
  let v295 : BitVec 32 := Scalar.muli v30 c4_i32_272
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_273 : BitVec 32 := 1#32
  let v297 : BitVec 32 := Scalar.muli v8 c1_i32_273
  let v298 : BitVec 32 := Scalar.addi v296 v297
  v298.toNat
def k0_dev12 (d0 : Dev nD) : Nat :=
  let c0_i32_329 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_328 : BitVec 32 := 16#32
  let v340 : BitVec 32 := Scalar.muli v2 c16_i32_328
  let v341 : BitVec 32 := Scalar.addi c0_i32_329 v340
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_330 : BitVec 32 := 4#32
  let v342 : BitVec 32 := Scalar.muli v30 c4_i32_330
  let v343 : BitVec 32 := Scalar.addi v341 v342
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_331 : BitVec 32 := 1#32
  let v344 : BitVec 32 := Scalar.muli v8 c1_i32_331
  let v345 : BitVec 32 := Scalar.addi v343 v344
  v345.toNat
def k0_dev13 (d0 : Dev nD) : Nat :=
  let c0_i32_387 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_386 : BitVec 32 := 16#32
  let v387 : BitVec 32 := Scalar.muli v2 c16_i32_386
  let v388 : BitVec 32 := Scalar.addi c0_i32_387 v387
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_388 : BitVec 32 := 4#32
  let v389 : BitVec 32 := Scalar.muli v30 c4_i32_388
  let v390 : BitVec 32 := Scalar.addi v388 v389
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_389 : BitVec 32 := 1#32
  let v391 : BitVec 32 := Scalar.muli v8 c1_i32_389
  let v392 : BitVec 32 := Scalar.addi v390 v391
  v392.toNat
def k0_dev14 (d0 : Dev nD) : Nat :=
  let c0_i32_453 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_452 : BitVec 32 := 16#32
  let v446 : BitVec 32 := Scalar.muli v2 c16_i32_452
  let v447 : BitVec 32 := Scalar.addi c0_i32_453 v446
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_454 : BitVec 32 := 4#32
  let v448 : BitVec 32 := Scalar.muli v30 c4_i32_454
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_455 : BitVec 32 := 1#32
  let v450 : BitVec 32 := Scalar.muli v8 c1_i32_455
  let v451 : BitVec 32 := Scalar.addi v449 v450
  v451.toNat
def k0_dev15 (d0 : Dev nD) : Nat :=
  let c0_i32_511 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_510 : BitVec 32 := 16#32
  let v493 : BitVec 32 := Scalar.muli v2 c16_i32_510
  let v494 : BitVec 32 := Scalar.addi c0_i32_511 v493
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_512 : BitVec 32 := 4#32
  let v495 : BitVec 32 := Scalar.muli v30 c4_i32_512
  let v496 : BitVec 32 := Scalar.addi v494 v495
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_513 : BitVec 32 := 1#32
  let v497 : BitVec 32 := Scalar.muli v8 c1_i32_513
  let v498 : BitVec 32 := Scalar.addi v496 v497
  v498.toNat
def k0_dev16 (d0 : Dev nD) : Nat :=
  let c0_i32_569 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_568 : BitVec 32 := 16#32
  let v540 : BitVec 32 := Scalar.muli v2 c16_i32_568
  let v541 : BitVec 32 := Scalar.addi c0_i32_569 v540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_570 : BitVec 32 := 4#32
  let v542 : BitVec 32 := Scalar.muli v30 c4_i32_570
  let v543 : BitVec 32 := Scalar.addi v541 v542
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_571 : BitVec 32 := 1#32
  let v544 : BitVec 32 := Scalar.muli v8 c1_i32_571
  let v545 : BitVec 32 := Scalar.addi v543 v544
  v545.toNat
def k0_dev17 (d0 : Dev nD) : Nat :=
  let c0_i32_627 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_626 : BitVec 32 := 16#32
  let v587 : BitVec 32 := Scalar.muli v2 c16_i32_626
  let v588 : BitVec 32 := Scalar.addi c0_i32_627 v587
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_628 : BitVec 32 := 4#32
  let v589 : BitVec 32 := Scalar.muli v30 c4_i32_628
  let v590 : BitVec 32 := Scalar.addi v588 v589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_629 : BitVec 32 := 1#32
  let v591 : BitVec 32 := Scalar.muli v8 c1_i32_629
  let v592 : BitVec 32 := Scalar.addi v590 v591
  v592.toNat
def k0_off2 (d0 : Dev nD) (c0_i32_668 : BitVec 32) : Fin 3 → Nat :=
  let c0_671 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_667 : BitVec 32 := 512#32
  let v621 : BitVec 32 := Scalar.muli v2 c512_i32_667
  let v622 : BitVec 32 := Scalar.addi v621 c0_i32_668
  let v626 : Index := Scalar.indexCast v622
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32_669 : BitVec 32 := 512#32
  let v623 : BitVec 32 := Scalar.muli v5 c512_i32_669
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_670 : BitVec 32 := 128#32
  let v624 : BitVec 32 := Scalar.muli v8 c128_i32_670
  let v625 : BitVec 32 := Scalar.addi v623 v624
  let v627 : Index := Scalar.indexCast v625
  ![0, v626.toNat, v627.toNat]
def k0_off3 (d0 : Dev nD) (c0_i32_673 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_672 : BitVec 32 := 512#32
  let v631 : BitVec 32 := Scalar.muli v2 c512_i32_672
  let v632 : BitVec 32 := Scalar.addi v631 c0_i32_673
  let v634 : Index := Scalar.indexCast v632
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c128_i32_674 : BitVec 32 := 128#32
  let v633 : BitVec 32 := Scalar.muli v8 c128_i32_674
  let v635 : Index := Scalar.indexCast v633
  ![v634.toNat, v635.toNat]
def k0_off4 (d0 : Dev nD) (c0_i32_677 : BitVec 32) (c0_i32_675 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_676 : BitVec 32 := 512#32
  let v638 : BitVec 32 := Scalar.muli v2 c512_i32_676
  let v639 : BitVec 32 := Scalar.addi v638 c0_i32_677
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v637 : BitVec 32 := Scalar.subi v8 c0_i32_675
  let c4_i32_678 : BitVec 32 := 4#32
  let c0_i32_679 : BitVec 32 := 0#32
  let v640 : BitVec 1 := Scalar.cmpi .eq c4_i32_678 c0_i32_679
  let c1_i32_680 : BitVec 32 := 1#32
  let v641 : BitVec 32 := Scalar.select v640 c1_i32_680 c4_i32_678
  let v642 : BitVec 32 := Scalar.remsi v637 v641
  let c0_i32_682 : BitVec 32 := 0#32
  let v644 : BitVec 1 := Scalar.cmpi .slt v642 c0_i32_682
  let c0_i32_683 : BitVec 32 := 0#32
  let v645 : BitVec 1 := Scalar.cmpi .slt v641 c0_i32_683
  let v646 : BitVec 1 := Scalar.xori v644 v645
  let c0_i32_681 : BitVec 32 := 0#32
  let v643 : BitVec 1 := Scalar.cmpi .ne v642 c0_i32_681
  let v647 : BitVec 1 := Scalar.andi v646 v643
  let v648 : BitVec 32 := Scalar.addi v642 v641
  let v649 : BitVec 32 := Scalar.select v647 v648 v642
  let c128_i32_684 : BitVec 32 := 128#32
  let v650 : BitVec 32 := Scalar.muli v649 c128_i32_684
  ![v639.toNat, v650.toNat]
def k0_dev18 (d0 : Dev nD) : Nat :=
  let c0_i32_690 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_689 : BitVec 32 := 16#32
  let v651 : BitVec 32 := Scalar.muli v2 c16_i32_689
  let v652 : BitVec 32 := Scalar.addi c0_i32_690 v651
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_691 : BitVec 32 := 4#32
  let v653 : BitVec 32 := Scalar.muli v5 c4_i32_691
  let v654 : BitVec 32 := Scalar.addi v652 v653
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_692 : BitVec 32 := 1#32
  let v655 : BitVec 32 := Scalar.muli v41 c1_i32_692
  let v656 : BitVec 32 := Scalar.addi v654 v655
  v656.toNat
def k0_off5 (d0 : Dev nD) (c0_i32_694 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_693 : BitVec 32 := 512#32
  let v663 : BitVec 32 := Scalar.muli v2 c512_i32_693
  let v664 : BitVec 32 := Scalar.addi v663 c0_i32_694
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_695 : BitVec 32 := 4#32
  let c0_i32_696 : BitVec 32 := 0#32
  let v665 : BitVec 1 := Scalar.cmpi .eq c4_i32_695 c0_i32_696
  let c1_i32_697 : BitVec 32 := 1#32
  let v666 : BitVec 32 := Scalar.select v665 c1_i32_697 c4_i32_695
  let v667 : BitVec 32 := Scalar.remsi v8 v666
  let c0_i32_699 : BitVec 32 := 0#32
  let v669 : BitVec 1 := Scalar.cmpi .slt v667 c0_i32_699
  let c0_i32_700 : BitVec 32 := 0#32
  let v670 : BitVec 1 := Scalar.cmpi .slt v666 c0_i32_700
  let v671 : BitVec 1 := Scalar.xori v669 v670
  let c0_i32_698 : BitVec 32 := 0#32
  let v668 : BitVec 1 := Scalar.cmpi .ne v667 c0_i32_698
  let v672 : BitVec 1 := Scalar.andi v671 v668
  let v673 : BitVec 32 := Scalar.addi v667 v666
  let v674 : BitVec 32 := Scalar.select v672 v673 v667
  let c128_i32_701 : BitVec 32 := 128#32
  let v675 : BitVec 32 := Scalar.muli v674 c128_i32_701
  ![v664.toNat, v675.toNat]
def k0_dev19 (d0 : Dev nD) : Nat :=
  let c0_i32_707 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_706 : BitVec 32 := 16#32
  let v676 : BitVec 32 := Scalar.muli v53 c16_i32_706
  let v677 : BitVec 32 := Scalar.addi c0_i32_707 v676
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_708 : BitVec 32 := 4#32
  let v678 : BitVec 32 := Scalar.muli v5 c4_i32_708
  let v679 : BitVec 32 := Scalar.addi v677 v678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_709 : BitVec 32 := 1#32
  let v680 : BitVec 32 := Scalar.muli v8 c1_i32_709
  let v681 : BitVec 32 := Scalar.addi v679 v680
  v681.toNat
def k0_dev20 (d0 : Dev nD) : Nat :=
  let c0_i32_766 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_765 : BitVec 32 := 16#32
  let v738 : BitVec 32 := Scalar.muli v2 c16_i32_765
  let v739 : BitVec 32 := Scalar.addi c0_i32_766 v738
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_767 : BitVec 32 := 4#32
  let v740 : BitVec 32 := Scalar.muli v5 c4_i32_767
  let v741 : BitVec 32 := Scalar.addi v739 v740
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_768 : BitVec 32 := 1#32
  let v742 : BitVec 32 := Scalar.muli v41 c1_i32_768
  let v743 : BitVec 32 := Scalar.addi v741 v742
  v743.toNat
def k0_dev21 (d0 : Dev nD) : Nat :=
  let c0_i32_783 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_782 : BitVec 32 := 16#32
  let v763 : BitVec 32 := Scalar.muli v53 c16_i32_782
  let v764 : BitVec 32 := Scalar.addi c0_i32_783 v763
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_784 : BitVec 32 := 4#32
  let v765 : BitVec 32 := Scalar.muli v5 c4_i32_784
  let v766 : BitVec 32 := Scalar.addi v764 v765
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_785 : BitVec 32 := 1#32
  let v767 : BitVec 32 := Scalar.muli v8 c1_i32_785
  let v768 : BitVec 32 := Scalar.addi v766 v767
  v768.toNat
def k0_dev22 (d0 : Dev nD) : Nat :=
  let c0_i32_842 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_841 : BitVec 32 := 16#32
  let v825 : BitVec 32 := Scalar.muli v2 c16_i32_841
  let v826 : BitVec 32 := Scalar.addi c0_i32_842 v825
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_843 : BitVec 32 := 4#32
  let v827 : BitVec 32 := Scalar.muli v5 c4_i32_843
  let v828 : BitVec 32 := Scalar.addi v826 v827
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_844 : BitVec 32 := 1#32
  let v829 : BitVec 32 := Scalar.muli v41 c1_i32_844
  let v830 : BitVec 32 := Scalar.addi v828 v829
  v830.toNat
def k0_dev23 (d0 : Dev nD) : Nat :=
  let c0_i32_859 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_858 : BitVec 32 := 16#32
  let v850 : BitVec 32 := Scalar.muli v53 c16_i32_858
  let v851 : BitVec 32 := Scalar.addi c0_i32_859 v850
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_860 : BitVec 32 := 4#32
  let v852 : BitVec 32 := Scalar.muli v5 c4_i32_860
  let v853 : BitVec 32 := Scalar.addi v851 v852
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_861 : BitVec 32 := 1#32
  let v854 : BitVec 32 := Scalar.muli v8 c1_i32_861
  let v855 : BitVec 32 := Scalar.addi v853 v854
  v855.toNat
def k0_dev24 (d0 : Dev nD) : Nat :=
  let c0_i32_918 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_917 : BitVec 32 := 16#32
  let v912 : BitVec 32 := Scalar.muli v2 c16_i32_917
  let v913 : BitVec 32 := Scalar.addi c0_i32_918 v912
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_919 : BitVec 32 := 4#32
  let v914 : BitVec 32 := Scalar.muli v5 c4_i32_919
  let v915 : BitVec 32 := Scalar.addi v913 v914
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_920 : BitVec 32 := 1#32
  let v916 : BitVec 32 := Scalar.muli v41 c1_i32_920
  let v917 : BitVec 32 := Scalar.addi v915 v916
  v917.toNat
def k0_dev25 (d0 : Dev nD) : Nat :=
  let c0_i32_935 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_934 : BitVec 32 := 16#32
  let v937 : BitVec 32 := Scalar.muli v53 c16_i32_934
  let v938 : BitVec 32 := Scalar.addi c0_i32_935 v937
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_936 : BitVec 32 := 4#32
  let v939 : BitVec 32 := Scalar.muli v5 c4_i32_936
  let v940 : BitVec 32 := Scalar.addi v938 v939
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_937 : BitVec 32 := 1#32
  let v941 : BitVec 32 := Scalar.muli v8 c1_i32_937
  let v942 : BitVec 32 := Scalar.addi v940 v941
  v942.toNat
def k0_off6 (d0 : Dev nD) (c0_i32_941 : BitVec 32) (c0_i32_938 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_940 : BitVec 32 := 512#32
  let v951 : BitVec 32 := Scalar.muli v2 c512_i32_940
  let v952 : BitVec 32 := Scalar.addi v951 c0_i32_941
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v949 : BitVec 32 := Scalar.subi v8 c0_i32_938
  let c1_i32_939 : BitVec 32 := 1#32
  let v950 : BitVec 32 := Scalar.subi v949 c1_i32_939
  let c4_i32_942 : BitVec 32 := 4#32
  let c0_i32_943 : BitVec 32 := 0#32
  let v953 : BitVec 1 := Scalar.cmpi .eq c4_i32_942 c0_i32_943
  let c1_i32_944 : BitVec 32 := 1#32
  let v954 : BitVec 32 := Scalar.select v953 c1_i32_944 c4_i32_942
  let v955 : BitVec 32 := Scalar.remsi v950 v954
  let c0_i32_946 : BitVec 32 := 0#32
  let v957 : BitVec 1 := Scalar.cmpi .slt v955 c0_i32_946
  let c0_i32_947 : BitVec 32 := 0#32
  let v958 : BitVec 1 := Scalar.cmpi .slt v954 c0_i32_947
  let v959 : BitVec 1 := Scalar.xori v957 v958
  let c0_i32_945 : BitVec 32 := 0#32
  let v956 : BitVec 1 := Scalar.cmpi .ne v955 c0_i32_945
  let v960 : BitVec 1 := Scalar.andi v959 v956
  let v961 : BitVec 32 := Scalar.addi v955 v954
  let v962 : BitVec 32 := Scalar.select v960 v961 v955
  let c128_i32_948 : BitVec 32 := 128#32
  let v963 : BitVec 32 := Scalar.muli v962 c128_i32_948
  ![v952.toNat, v963.toNat]
def k0_dev26 (d0 : Dev nD) : Nat :=
  let c0_i32_972 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_971 : BitVec 32 := 16#32
  let v988 : BitVec 32 := Scalar.muli v2 c16_i32_971
  let v989 : BitVec 32 := Scalar.addi c0_i32_972 v988
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_973 : BitVec 32 := 4#32
  let v990 : BitVec 32 := Scalar.muli v5 c4_i32_973
  let v991 : BitVec 32 := Scalar.addi v989 v990
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_974 : BitVec 32 := 1#32
  let v992 : BitVec 32 := Scalar.muli v41 c1_i32_974
  let v993 : BitVec 32 := Scalar.addi v991 v992
  v993.toNat
def k0_dev27 (d0 : Dev nD) : Nat :=
  let c0_i32_991 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_990 : BitVec 32 := 16#32
  let v1015 : BitVec 32 := Scalar.muli v53 c16_i32_990
  let v1016 : BitVec 32 := Scalar.addi c0_i32_991 v1015
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_992 : BitVec 32 := 4#32
  let v1017 : BitVec 32 := Scalar.muli v5 c4_i32_992
  let v1018 : BitVec 32 := Scalar.addi v1016 v1017
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_993 : BitVec 32 := 1#32
  let v1019 : BitVec 32 := Scalar.muli v8 c1_i32_993
  let v1020 : BitVec 32 := Scalar.addi v1018 v1019
  v1020.toNat
def k0_dev28 (d0 : Dev nD) : Nat :=
  let c0_i32_1028 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1027 : BitVec 32 := 16#32
  let v1066 : BitVec 32 := Scalar.muli v2 c16_i32_1027
  let v1067 : BitVec 32 := Scalar.addi c0_i32_1028 v1066
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1029 : BitVec 32 := 4#32
  let v1068 : BitVec 32 := Scalar.muli v5 c4_i32_1029
  let v1069 : BitVec 32 := Scalar.addi v1067 v1068
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1030 : BitVec 32 := 1#32
  let v1070 : BitVec 32 := Scalar.muli v41 c1_i32_1030
  let v1071 : BitVec 32 := Scalar.addi v1069 v1070
  v1071.toNat
def k0_dev29 (d0 : Dev nD) : Nat :=
  let c0_i32_1047 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1046 : BitVec 32 := 16#32
  let v1093 : BitVec 32 := Scalar.muli v53 c16_i32_1046
  let v1094 : BitVec 32 := Scalar.addi c0_i32_1047 v1093
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1048 : BitVec 32 := 4#32
  let v1095 : BitVec 32 := Scalar.muli v5 c4_i32_1048
  let v1096 : BitVec 32 := Scalar.addi v1094 v1095
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1049 : BitVec 32 := 1#32
  let v1097 : BitVec 32 := Scalar.muli v8 c1_i32_1049
  let v1098 : BitVec 32 := Scalar.addi v1096 v1097
  v1098.toNat
def k0_dev30 (d0 : Dev nD) : Nat :=
  let c0_i32_1084 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1083 : BitVec 32 := 16#32
  let v1144 : BitVec 32 := Scalar.muli v2 c16_i32_1083
  let v1145 : BitVec 32 := Scalar.addi c0_i32_1084 v1144
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1085 : BitVec 32 := 4#32
  let v1146 : BitVec 32 := Scalar.muli v5 c4_i32_1085
  let v1147 : BitVec 32 := Scalar.addi v1145 v1146
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1086 : BitVec 32 := 1#32
  let v1148 : BitVec 32 := Scalar.muli v41 c1_i32_1086
  let v1149 : BitVec 32 := Scalar.addi v1147 v1148
  v1149.toNat
def k0_dev31 (d0 : Dev nD) : Nat :=
  let c0_i32_1103 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1102 : BitVec 32 := 16#32
  let v1171 : BitVec 32 := Scalar.muli v53 c16_i32_1102
  let v1172 : BitVec 32 := Scalar.addi c0_i32_1103 v1171
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1104 : BitVec 32 := 4#32
  let v1173 : BitVec 32 := Scalar.muli v5 c4_i32_1104
  let v1174 : BitVec 32 := Scalar.addi v1172 v1173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1105 : BitVec 32 := 1#32
  let v1175 : BitVec 32 := Scalar.muli v8 c1_i32_1105
  let v1176 : BitVec 32 := Scalar.addi v1174 v1175
  v1176.toNat
def k0_dev32 (d0 : Dev nD) : Nat :=
  let c0_i32_1140 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1139 : BitVec 32 := 16#32
  let v1222 : BitVec 32 := Scalar.muli v2 c16_i32_1139
  let v1223 : BitVec 32 := Scalar.addi c0_i32_1140 v1222
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1141 : BitVec 32 := 4#32
  let v1224 : BitVec 32 := Scalar.muli v5 c4_i32_1141
  let v1225 : BitVec 32 := Scalar.addi v1223 v1224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1142 : BitVec 32 := 1#32
  let v1226 : BitVec 32 := Scalar.muli v41 c1_i32_1142
  let v1227 : BitVec 32 := Scalar.addi v1225 v1226
  v1227.toNat
def k0_dev33 (d0 : Dev nD) : Nat :=
  let c0_i32_1159 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1158 : BitVec 32 := 16#32
  let v1249 : BitVec 32 := Scalar.muli v53 c16_i32_1158
  let v1250 : BitVec 32 := Scalar.addi c0_i32_1159 v1249
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1160 : BitVec 32 := 4#32
  let v1251 : BitVec 32 := Scalar.muli v5 c4_i32_1160
  let v1252 : BitVec 32 := Scalar.addi v1250 v1251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1161 : BitVec 32 := 1#32
  let v1253 : BitVec 32 := Scalar.muli v8 c1_i32_1161
  let v1254 : BitVec 32 := Scalar.addi v1252 v1253
  v1254.toNat
def k0_dev34 (d0 : Dev nD) : Nat :=
  let c0_i32_1196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1195 : BitVec 32 := 16#32
  let v1300 : BitVec 32 := Scalar.muli v2 c16_i32_1195
  let v1301 : BitVec 32 := Scalar.addi c0_i32_1196 v1300
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1197 : BitVec 32 := 4#32
  let v1302 : BitVec 32 := Scalar.muli v5 c4_i32_1197
  let v1303 : BitVec 32 := Scalar.addi v1301 v1302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1198 : BitVec 32 := 1#32
  let v1304 : BitVec 32 := Scalar.muli v41 c1_i32_1198
  let v1305 : BitVec 32 := Scalar.addi v1303 v1304
  v1305.toNat
def k0_dev35 (d0 : Dev nD) : Nat :=
  let c0_i32_1215 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1214 : BitVec 32 := 16#32
  let v1327 : BitVec 32 := Scalar.muli v53 c16_i32_1214
  let v1328 : BitVec 32 := Scalar.addi c0_i32_1215 v1327
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1216 : BitVec 32 := 4#32
  let v1329 : BitVec 32 := Scalar.muli v5 c4_i32_1216
  let v1330 : BitVec 32 := Scalar.addi v1328 v1329
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1217 : BitVec 32 := 1#32
  let v1331 : BitVec 32 := Scalar.muli v8 c1_i32_1217
  let v1332 : BitVec 32 := Scalar.addi v1330 v1331
  v1332.toNat
def k0_dev36 (d0 : Dev nD) : Nat :=
  let c0_i32_1252 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1251 : BitVec 32 := 16#32
  let v1378 : BitVec 32 := Scalar.muli v2 c16_i32_1251
  let v1379 : BitVec 32 := Scalar.addi c0_i32_1252 v1378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1253 : BitVec 32 := 4#32
  let v1380 : BitVec 32 := Scalar.muli v5 c4_i32_1253
  let v1381 : BitVec 32 := Scalar.addi v1379 v1380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1254 : BitVec 32 := 1#32
  let v1382 : BitVec 32 := Scalar.muli v41 c1_i32_1254
  let v1383 : BitVec 32 := Scalar.addi v1381 v1382
  v1383.toNat
def k0_dev37 (d0 : Dev nD) : Nat :=
  let c0_i32_1271 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1270 : BitVec 32 := 16#32
  let v1405 : BitVec 32 := Scalar.muli v53 c16_i32_1270
  let v1406 : BitVec 32 := Scalar.addi c0_i32_1271 v1405
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1272 : BitVec 32 := 4#32
  let v1407 : BitVec 32 := Scalar.muli v5 c4_i32_1272
  let v1408 : BitVec 32 := Scalar.addi v1406 v1407
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1273 : BitVec 32 := 1#32
  let v1409 : BitVec 32 := Scalar.muli v8 c1_i32_1273
  let v1410 : BitVec 32 := Scalar.addi v1408 v1409
  v1410.toNat
def k0_dev38 (d0 : Dev nD) : Nat :=
  let c0_i32_1308 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1307 : BitVec 32 := 16#32
  let v1456 : BitVec 32 := Scalar.muli v2 c16_i32_1307
  let v1457 : BitVec 32 := Scalar.addi c0_i32_1308 v1456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1309 : BitVec 32 := 4#32
  let v1458 : BitVec 32 := Scalar.muli v5 c4_i32_1309
  let v1459 : BitVec 32 := Scalar.addi v1457 v1458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1310 : BitVec 32 := 1#32
  let v1460 : BitVec 32 := Scalar.muli v41 c1_i32_1310
  let v1461 : BitVec 32 := Scalar.addi v1459 v1460
  v1461.toNat
def k0_dev39 (d0 : Dev nD) : Nat :=
  let c0_i32_1327 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1326 : BitVec 32 := 16#32
  let v1483 : BitVec 32 := Scalar.muli v53 c16_i32_1326
  let v1484 : BitVec 32 := Scalar.addi c0_i32_1327 v1483
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1328 : BitVec 32 := 4#32
  let v1485 : BitVec 32 := Scalar.muli v5 c4_i32_1328
  let v1486 : BitVec 32 := Scalar.addi v1484 v1485
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1329 : BitVec 32 := 1#32
  let v1487 : BitVec 32 := Scalar.muli v8 c1_i32_1329
  let v1488 : BitVec 32 := Scalar.addi v1486 v1487
  v1488.toNat
def k0_dev40 (d0 : Dev nD) : Nat :=
  let c0_i32_1364 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1363 : BitVec 32 := 16#32
  let v1534 : BitVec 32 := Scalar.muli v2 c16_i32_1363
  let v1535 : BitVec 32 := Scalar.addi c0_i32_1364 v1534
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1365 : BitVec 32 := 4#32
  let v1536 : BitVec 32 := Scalar.muli v5 c4_i32_1365
  let v1537 : BitVec 32 := Scalar.addi v1535 v1536
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.addi v8 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c1_i32_1366 : BitVec 32 := 1#32
  let v1538 : BitVec 32 := Scalar.muli v41 c1_i32_1366
  let v1539 : BitVec 32 := Scalar.addi v1537 v1538
  v1539.toNat
def k0_dev41 (d0 : Dev nD) : Nat :=
  let c0_i32_1383 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1382 : BitVec 32 := 16#32
  let v1561 : BitVec 32 := Scalar.muli v53 c16_i32_1382
  let v1562 : BitVec 32 := Scalar.addi c0_i32_1383 v1561
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1384 : BitVec 32 := 4#32
  let v1563 : BitVec 32 := Scalar.muli v5 c4_i32_1384
  let v1564 : BitVec 32 := Scalar.addi v1562 v1563
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1385 : BitVec 32 := 1#32
  let v1565 : BitVec 32 := Scalar.muli v8 c1_i32_1385
  let v1566 : BitVec 32 := Scalar.addi v1564 v1565
  v1566.toNat
def k0_dev42 (d0 : Dev nD) : Nat :=
  let c0_i32_1421 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1420 : BitVec 32 := 16#32
  let v1613 : BitVec 32 := Scalar.muli v53 c16_i32_1420
  let v1614 : BitVec 32 := Scalar.addi c0_i32_1421 v1613
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1422 : BitVec 32 := 4#32
  let v1615 : BitVec 32 := Scalar.muli v5 c4_i32_1422
  let v1616 : BitVec 32 := Scalar.addi v1614 v1615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1423 : BitVec 32 := 1#32
  let v1617 : BitVec 32 := Scalar.muli v8 c1_i32_1423
  let v1618 : BitVec 32 := Scalar.addi v1616 v1617
  v1618.toNat
def k0_dev43 (d0 : Dev nD) : Nat :=
  let c0_i32_1459 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1458 : BitVec 32 := 16#32
  let v1665 : BitVec 32 := Scalar.muli v53 c16_i32_1458
  let v1666 : BitVec 32 := Scalar.addi c0_i32_1459 v1665
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1460 : BitVec 32 := 4#32
  let v1667 : BitVec 32 := Scalar.muli v5 c4_i32_1460
  let v1668 : BitVec 32 := Scalar.addi v1666 v1667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1461 : BitVec 32 := 1#32
  let v1669 : BitVec 32 := Scalar.muli v8 c1_i32_1461
  let v1670 : BitVec 32 := Scalar.addi v1668 v1669
  v1670.toNat
def k0_dev44 (d0 : Dev nD) : Nat :=
  let c0_i32_1497 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1496 : BitVec 32 := 16#32
  let v1717 : BitVec 32 := Scalar.muli v53 c16_i32_1496
  let v1718 : BitVec 32 := Scalar.addi c0_i32_1497 v1717
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1498 : BitVec 32 := 4#32
  let v1719 : BitVec 32 := Scalar.muli v5 c4_i32_1498
  let v1720 : BitVec 32 := Scalar.addi v1718 v1719
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1499 : BitVec 32 := 1#32
  let v1721 : BitVec 32 := Scalar.muli v8 c1_i32_1499
  let v1722 : BitVec 32 := Scalar.addi v1720 v1721
  v1722.toNat
def k0_dev45 (d0 : Dev nD) : Nat :=
  let c0_i32_1535 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_1534 : BitVec 32 := 16#32
  let v1769 : BitVec 32 := Scalar.muli v53 c16_i32_1534
  let v1770 : BitVec 32 := Scalar.addi c0_i32_1535 v1769
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1536 : BitVec 32 := 4#32
  let v1771 : BitVec 32 := Scalar.muli v5 c4_i32_1536
  let v1772 : BitVec 32 := Scalar.addi v1770 v1771
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1537 : BitVec 32 := 1#32
  let v1773 : BitVec 32 := Scalar.muli v8 c1_i32_1537
  let v1774 : BitVec 32 := Scalar.addi v1772 v1773
  v1774.toNat
def k0_off7 (d0 : Dev nD) (c0_i32_1541 : BitVec 32) (c0_i32_1538 : BitVec 32) : Fin 2 → Nat :=
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c512_i32_1540 : BitVec 32 := 512#32
  let v1783 : BitVec 32 := Scalar.muli v53 c512_i32_1540
  let v1784 : BitVec 32 := Scalar.addi v1783 c0_i32_1541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v1781 : BitVec 32 := Scalar.subi v8 c0_i32_1538
  let c1_i32_1539 : BitVec 32 := 1#32
  let v1782 : BitVec 32 := Scalar.subi v1781 c1_i32_1539
  let c4_i32_1542 : BitVec 32 := 4#32
  let c0_i32_1543 : BitVec 32 := 0#32
  let v1785 : BitVec 1 := Scalar.cmpi .eq c4_i32_1542 c0_i32_1543
  let c1_i32_1544 : BitVec 32 := 1#32
  let v1786 : BitVec 32 := Scalar.select v1785 c1_i32_1544 c4_i32_1542
  let v1787 : BitVec 32 := Scalar.remsi v1782 v1786
  let c0_i32_1546 : BitVec 32 := 0#32
  let v1789 : BitVec 1 := Scalar.cmpi .slt v1787 c0_i32_1546
  let c0_i32_1547 : BitVec 32 := 0#32
  let v1790 : BitVec 1 := Scalar.cmpi .slt v1786 c0_i32_1547
  let v1791 : BitVec 1 := Scalar.xori v1789 v1790
  let c0_i32_1545 : BitVec 32 := 0#32
  let v1788 : BitVec 1 := Scalar.cmpi .ne v1787 c0_i32_1545
  let v1792 : BitVec 1 := Scalar.andi v1791 v1788
  let v1793 : BitVec 32 := Scalar.addi v1787 v1786
  let v1794 : BitVec 32 := Scalar.select v1792 v1793 v1787
  let c128_i32_1548 : BitVec 32 := 128#32
  let v1795 : BitVec 32 := Scalar.muli v1794 c128_i32_1548
  ![v1784.toNat, v1795.toNat]
def k0_off8 (d0 : Dev nD) (c0_i32_1611 : BitVec 32) : Fin 2 → Nat :=
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c512_i32_1610 : BitVec 32 := 512#32
  let v1868 : BitVec 32 := Scalar.muli v53 c512_i32_1610
  let v1869 : BitVec 32 := Scalar.addi v1868 c0_i32_1611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_1612 : BitVec 32 := 4#32
  let c0_i32_1613 : BitVec 32 := 0#32
  let v1870 : BitVec 1 := Scalar.cmpi .eq c4_i32_1612 c0_i32_1613
  let c1_i32_1614 : BitVec 32 := 1#32
  let v1871 : BitVec 32 := Scalar.select v1870 c1_i32_1614 c4_i32_1612
  let v1872 : BitVec 32 := Scalar.remsi v8 v1871
  let c0_i32_1616 : BitVec 32 := 0#32
  let v1874 : BitVec 1 := Scalar.cmpi .slt v1872 c0_i32_1616
  let c0_i32_1617 : BitVec 32 := 0#32
  let v1875 : BitVec 1 := Scalar.cmpi .slt v1871 c0_i32_1617
  let v1876 : BitVec 1 := Scalar.xori v1874 v1875
  let c0_i32_1615 : BitVec 32 := 0#32
  let v1873 : BitVec 1 := Scalar.cmpi .ne v1872 c0_i32_1615
  let v1877 : BitVec 1 := Scalar.andi v1876 v1873
  let v1878 : BitVec 32 := Scalar.addi v1872 v1871
  let v1879 : BitVec 32 := Scalar.select v1877 v1878 v1872
  let c128_i32_1618 : BitVec 32 := 128#32
  let v1880 : BitVec 32 := Scalar.muli v1879 c128_i32_1618
  ![v1869.toNat, v1880.toNat]
abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4x1024x2048 : Shape := ⟨3, ![4, 1024, 2048]⟩
abbrev S_ : Shape := ⟨0, ![]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .f32⟩
  | .hbm, ⟨1, _⟩ => ⟨S_, .f32⟩
  | .hbm, ⟨2, _⟩ => ⟨S1024x2048, .f32⟩
  | _, _ => ⟨S4x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
module

public import proofs.«01_k».proof.Proof.Gen.KernelIdeal
public import proofs.«01_k».proof.Proof.Gen.KernelIdeal.Skeleton
public import Idealize.ShloMosaic.Lib.Pipeline.Regions

/-!
# The kernel's body in pieces

The body of the kernel is a straight line of loads, stores, remote copies and waits.  It is written here
once per kind of step, with the lane (`p`) and the hop (`s`, `h`) as parameters, and shown to be the
printed body.
-/

@[expose] public section

noncomputable section

namespace Cert.KernelIdeal.RingSum

open Cert.KernelIdeal Cert.KernelIdeal.Gen
open Idealize.ShloMosaic Idealize.SL.Sem

variable {F : FTy → Type} [FloatOps F]

/-- A program of one core of the kernel. -/
abbrev Kern (F : FTy → Type) := Prog (TpuEff nD τ sig (Elt F) Λ₀ .tc) PUnit

/-- The input block of a device, as staged. -/
abbrev xM : Memref sig .tc .vmem S1x1024x2048 .f32 := Memref.whole cc0_stg0_0
/-- The result block of a device, as staged. -/
abbrev oM : Memref sig .tc .vmem S1024x512 .f32 := Memref.whole cc0_stg1_0
/-- The buffer the partial sums are sent from. -/
abbrev sM : Memref sig .tc .vmem S4x3x128x128 .f32 := Memref.whole cc0_scratch0
/-- The buffer the partial sums arrive in. -/
abbrev rM : Memref sig .tc .vmem S4x3x128x128 .f32 := Memref.whole cc0_scratch1

theorem slot_inb : ∀ (p : Fin 4) (s : Fin 3), ∀ a,
    (![(p : ℕ), (s : ℕ), 0, 0] : Fin 4 → ℕ) a + S1x1x128x128.size a ≤ S4x3x128x128.size a := by decide

/-- The rectangle of slot `(p, s)` in a buffer of partial sums. -/
abbrev slotR (p : Fin 4) (s : Fin 3) : Rect S4x3x128x128 :=
  Rect.unit (s := S4x3x128x128) ![(p : ℕ), (s : ℕ), 0, 0] S1x1x128x128.size (slot_inb p s)

/-- Slot `(p, s)` of a buffer of partial sums, as a block. -/
def slot (m : Memref sig .tc .vmem S4x3x128x128 .f32) (p : Fin 4) (s : Fin 3) : Memref sig .tc .vmem S128x128 .f32 :=
  (m.slice (slotR p s) (fun _ => rfl)).squeeze S128x128 squeezes_S1x1x128x128_S128x128

theorem slot_exact (m : Memref sig .tc .vmem S4x3x128x128 .f32) (p : Fin 4) (s : Fin 3) :
    (slot m p s).view.WordExact := (View.wordExact_bits rfl).reshape _ _

theorem sem43_inb : ∀ (p : Fin 4) (s : Fin 3), ∀ a, (![(p : ℕ), (s : ℕ)] : Fin 2 → ℕ) a + S1x1.size a ≤ S4x3.size a := by
  decide
theorem sem44_inb : ∀ (p : Fin 4) (s : Fin 4), ∀ a, (![(p : ℕ), (s : ℕ)] : Fin 2 → ℕ) a + S1x1.size a ≤ S4x4.size a := by
  decide

/-- Semaphore `(p, s)` of a four by three array. -/
def sem43 (a : DmaSems sig S4x3) (p : Fin 4) (s : Fin 3) : DmaSem sig :=
  ((a.slice (Rect.unit (s := S4x3) ![(p : ℕ), (s : ℕ)] S1x1.size (sem43_inb p s))).squeeze S_ squeezes_S1x1_S_).sem
/-- Semaphore `(p, k)` of a four by four array. -/
def sem44 (a : DmaSems sig S4x4) (p : Fin 4) (k : Fin 4) : DmaSem sig :=
  ((a.slice (Rect.unit (s := S4x4) ![(p : ℕ), (k : ℕ)] S1x1.size (sem44_inb p k))).squeeze S_ squeezes_S1x1_S_).sem

/-- The block of the result at offsets `off`. -/
def outSl (off : Fin 2 → ℕ) (h : ∀ a, off a + S128x128.size a ≤ S1024x512.size a) : Memref sig .tc .vmem S128x128 .f32 :=
  oM.slice (Rect.unit (s := S1024x512) off S128x128.size h) (fun _ => rfl)

theorem outSl_exact (off : Fin 2 → ℕ) (h : ∀ a, off a + S128x128.size a ≤ S1024x512.size a) :
    (outSl off h).view.WordExact := View.wordExact_bits rfl

/-- The block of `c`'s own rows in lane `p` that travels `h` hops around the ring of the last axis. -/
abbrev agOut (c : Dev nD) (p : Fin 4) (h : Fin 3) := outSl (k0_off4 c (BitVec.ofNat 32 (128 * p.val)) (BitVec.ofNat 32 h.val)) (k0_off4_inb c p h)
/-- The block of `c`'s own rows and column in lane `p`. -/
abbrev ownOut (c : Dev nD) (p : Fin 4) := outSl (k0_off5 c (BitVec.ofNat 32 (128 * p.val))) (k0_off5_inb c p)
/-- The block of `c`'s own rows in lane `p` that arrives at hop `h`. -/
abbrev agIn (c : Dev nD) (p : Fin 4) (h : Fin 3) := outSl (k0_off6 c (BitVec.ofNat 32 (128 * p.val)) (BitVec.ofNat 32 h.val)) (k0_off6_inb c p h)
/-- The block of the partner's rows in lane `p` that arrives as the partner has received hop `h`. -/
abbrev xsIn (c : Dev nD) (p : Fin 4) (h : Fin 3) := outSl (k0_off7 c (BitVec.ofNat 32 (128 * p.val)) (BitVec.ofNat 32 h.val)) (k0_off7_inb c p h)
/-- The block of the partner's rows and `c`'s column in lane `p`. -/
abbrev xsIn0 (c : Dev nD) (p : Fin 4) := outSl (k0_off8 c (BitVec.ofNat 32 (128 * p.val))) (k0_off8_inb c p)

/-- The rectangle of the input that hop `s` of the reduction adds. -/
abbrev xR (c : Dev nD) (p : Fin 4) (s : Fin 3) : Rect S1x1024x2048 :=
  Rect.unit (s := S1x1024x2048) (k0_off1 c (BitVec.ofNat 32 (128 * p.val)) (BitVec.ofNat 32 s.val)) S1x128x128.size (k0_off1_inb c p s)
/-- The rectangle of the input that the last hop of the reduction adds. -/
abbrev xR2 (c : Dev nD) (p : Fin 4) : Rect S1x1024x2048 :=
  Rect.unit (s := S1x1024x2048) (k0_off2 c (BitVec.ofNat 32 (128 * p.val))) S1x128x128.size (k0_off2_inb c p)
/-- The rectangle of the result a device computes itself. -/
abbrev oR (c : Dev nD) (p : Fin 4) : Rect S1024x512 :=
  Rect.unit (s := S1024x512) (k0_off3 c (BitVec.ofNat 32 (128 * p.val))) S128x128.size (k0_off3_inb c p)

/-- A loaded block of the input as a plain block. -/
def xBlk (v : Vec F S1x128x128 .f32) : FVec F S128x128 .f32 := shapeCast S128x128 v shapeCasts_S1x128x128_S128x128
/-- A loaded slot as a plain block. -/
def rBlk (v : Vec F S1x1x128x128 .f32) : FVec F S128x128 .f32 := shapeCast S128x128 v shapeCasts_S1x1x128x128_S128x128
/-- A plain block in the shape of a slot. -/
def toSlot (v : FVec F S128x128 .f32) : FVec F S1x1x128x128 .f32 := shapeCast S1x1x128x128 v shapeCasts_S128x128_S1x1x128x128

/-! ## Steps -/

/-- Send `src` to `dst` on device `n`. -/
def ship (src dst : Memref sig .tc .vmem S128x128 .f32) (hs : src.view.WordExact) (hd : dst.view.WordExact) (n : Dev nD)
    (sS sR : DmaSem sig) (k : Kern F) : Kern F :=
  .op (.enqueueDma src (.remote (Dev.tc n) dst (.dma sS)) (.dma sR) hs hd ⟨⟨rfl, Or.inl rfl⟩, trivial⟩) (fun _ => k)

/-- Wait for a copy into `dst`. -/
def await (sm : DmaSem sig) (src dst : Memref sig .tc .vmem S128x128 .f32) (hs : src.view.WordExact) (hd : dst.view.WordExact)
    (k : Kern F) : Kern F :=
  .op (.waitDma2 sm src dst hs hd) (fun _ => k)

/-- Send slot `(p, s)` to device `n`. -/
def rsShip (p : Fin 4) (s : Fin 3) (n : Dev nD) (k : Kern F) : Kern F :=
  ship (slot sM p s) (slot rM p s) (slot_exact _ p s) (slot_exact _ p s) n (sem43 cc0_scratch2 p s) (sem43 cc0_scratch3 p s) k

/-- Wait until slot `(p, s)` is sent, then until it has arrived. -/
def rsAwait (p : Fin 4) (s : Fin 3) (k : Kern F) : Kern F :=
  await (sem43 cc0_scratch2 p s) (slot rM p s) (slot sM p s) (slot_exact _ p s) (slot_exact _ p s) <|
  await (sem43 cc0_scratch3 p s) (slot sM p s) (slot rM p s) (slot_exact _ p s) (slot_exact _ p s) k

/-- Store a block in slot `(p, s)` (after a load of the slot whose value is not used). -/
def slotStore (p : Fin 4) (s : Fin 3) (w : FVec F S128x128 .f32) (k : Kern F) : Kern F :=
  .op (.load sM (slotR p s).toLoadRect (View.loadsAt_vmem h_S1x1x128x128)) fun _ =>
  .op (.store sM (slotR p s) (toSlot w) Finset.univ (View.stores_vmem_bits_univ h_S1x1x128x128 rfl) (.inl rfl)) fun _ => k

/-- The first hop of the reduction in lane `p`: the chunk is sent as it is. -/
def rsFirst (c : Dev nD) (p : Fin 4) (n : Dev nD) (k : Kern F) : Kern F :=
  .op (.load xM (xR c p 0).toLoadRect (View.loadsAt_vmem h_S1x128x128)) fun v =>
  slotStore p 0 (xBlk v) <| rsShip p 0 n k

/-- A later hop of the reduction in lane `p`: the arrived partial sum, plus this device's chunk, is sent on. -/
def rsNext (c : Dev nD) (p : Fin 4) (s s' : Fin 3) (n : Dev nD) (k : Kern F) : Kern F :=
  rsAwait p s <|
  .op (.load rM (slotR p s).toLoadRect (View.loadsAt_vmem h_S1x1x128x128)) fun v =>
  .op (.load xM (xR c p s').toLoadRect (View.loadsAt_vmem h_S1x128x128)) fun w =>
  slotStore p s' (addf (rBlk v) (xBlk w)) <| rsShip p s' n k

/-- Send a block of the result to the same place on the next device of the last axis. -/
def agShip (c : Dev nD) (p : Fin 4) (h : Fin 3) (n : Dev nD) (k : Kern F) : Kern F :=
  ship (agOut c p h) (agOut c p h) (outSl_exact _ _) (outSl_exact _ _) n (sem43 cc0_scratch4 p h) (sem43 cc0_scratch5 p h) k

/-- The last hop of the reduction in lane `p`: the finished block goes to the result, and is sent to the next
    device of the last axis and to the partner. -/
def outStep (c : Dev nD) (p : Fin 4) (n n' : Dev nD) (k : Kern F) : Kern F :=
  rsAwait p 2 <|
  .op (.load rM (slotR p 2).toLoadRect (View.loadsAt_vmem h_S1x1x128x128)) fun v =>
  .op (.load xM (xR2 c p).toLoadRect (View.loadsAt_vmem h_S1x128x128)) fun w =>
  .op (.load oM (oR c p).toLoadRect (View.loadsAt_vmem h_S128x128)) fun _ =>
  .op (.store oM (oR c p) (addf (rBlk v) (xBlk w)) Finset.univ (View.stores_vmem_bits_univ h_S128x128 rfl) (.inl rfl)) fun _ =>
  agShip c p 0 n <|
  ship (ownOut c p) (ownOut c p) (outSl_exact _ _) (outSl_exact _ _) n' (sem44 cc0_scratch6 p 0) (sem44 cc0_scratch7 p 0) k

/-- Send the block that arrived at hop `h` to the partner. -/
def xsShip (c : Dev nD) (p : Fin 4) (h : Fin 3) (n : Dev nD) (k : Kern F) : Kern F :=
  ship (agIn c p h) (agIn c p h) (outSl_exact _ _) (outSl_exact _ _) n (sem44 cc0_scratch6 p h.succ) (sem44 cc0_scratch7 p h.succ) k

/-- Wait for the block of hop `h`. -/
def agAwait (c : Dev nD) (p : Fin 4) (h : Fin 3) (k : Kern F) : Kern F :=
  await (sem43 cc0_scratch5 p h) (agIn c p h) (agIn c p h) (outSl_exact _ _) (outSl_exact _ _) k

/-- Hop `h` around the ring of the last axis in lane `p`, not the last: pass the block on, both ways. -/
def fwd (c : Dev nD) (p : Fin 4) (h h' : Fin 3) (n n' : Dev nD) (k : Kern F) : Kern F :=
  agAwait c p h <| agShip c p h' n <| xsShip c p h n' k

/-- The last hop around the ring of the last axis in lane `p`: pass the block to the partner. -/
def fwdLast (c : Dev nD) (p : Fin 4) (n' : Dev nD) (k : Kern F) : Kern F :=
  agAwait c p 2 <| xsShip c p 2 n' k

/-- Wait for the partner's block `h` and for the send of hop `h`. -/
def finHop (c : Dev nD) (p : Fin 4) (h : Fin 3) (k : Kern F) : Kern F :=
  await (sem44 cc0_scratch7 p h.succ) (xsIn c p h) (xsIn c p h) (outSl_exact _ _) (outSl_exact _ _) <|
  await (sem43 cc0_scratch4 p h) (agOut c p h) (agOut c p h) (outSl_exact _ _) (outSl_exact _ _) k

/-- The closing waits of lane `p`. -/
def fin (c : Dev nD) (p : Fin 4) (k : Kern F) : Kern F :=
  finHop c p 0 <| finHop c p 1 <| finHop c p 2 <|
  await (sem44 cc0_scratch7 p 0) (xsIn0 c p) (xsIn0 c p) (outSl_exact _ _) (outSl_exact _ _) k

/-- Wait for the send of a device's own block to the partner. -/
def shipAwait0 (c : Dev nD) (p : Fin 4) (k : Kern F) : Kern F :=
  await (sem44 cc0_scratch6 p 0) (ownOut c p) (ownOut c p) (outSl_exact _ _) (outSl_exact _ _) k
/-- Wait for the send of the block of hop `h` to the partner. -/
def shipAwait (c : Dev nD) (h : Fin 3) (p : Fin 4) (k : Kern F) : Kern F :=
  await (sem44 cc0_scratch6 p h.succ) (agIn c p h) (agIn c p h) (outSl_exact _ _) (outSl_exact _ _) k

/-- A step of every lane, in turn. -/
def lanes (f : Fin 4 → Kern F → Kern F) (k : Kern F) : Kern F := f 0 <| f 1 <| f 2 <| f 3 k

/-- The barrier's semaphore. -/
abbrev barSem : Sem sig := (SemArray.scalar (sig.barrier 0 rfl) : Sems sig S_).sem

/-- Signal the barrier of device `n`. -/
def signal (n : Dev nD) (k : Kern F) : Kern F :=
  .op (.semSignal (n, .tc) barSem (1#32 : BitVec 32).toInt) fun _ => k

/-- The neighbour before `c` on the second axis. -/
abbrev leftY (c : Dev nD) : Dev nD := ⟨k0_dev1 c, k0_dev1_lt c⟩
/-- The neighbour after `c` on the second axis. -/
abbrev rightY (c : Dev nD) : Dev nD := ⟨k0_dev2 c, k0_dev2_lt c⟩
/-- The neighbour before `c` on the last axis. -/
abbrev leftZ (c : Dev nD) : Dev nD := ⟨k0_dev3 c, k0_dev3_lt c⟩
/-- The neighbour after `c` on the last axis. -/
abbrev rightZ (c : Dev nD) : Dev nD := ⟨k0_dev4 c, k0_dev4_lt c⟩
/-- The partner of `c` across the first axis. -/
abbrev mate (c : Dev nD) : Dev nD := ⟨k0_dev5 c, k0_dev5_lt c⟩

/-- The body after the barrier. -/
def steps (c : Dev nD) : Kern F :=
  lanes (fun p => rsFirst c p (rightY c)) <|
  lanes (fun p => rsNext c p 0 1 (rightY c)) <|
  lanes (fun p => rsNext c p 1 2 (rightY c)) <|
  lanes (fun p => outStep c p (rightZ c) (mate c)) <|
  lanes (fun p => fwd c p 0 1 (rightZ c) (mate c)) <|
  lanes (fun p => fwd c p 1 2 (rightZ c) (mate c)) <|
  lanes (fun p => fwdLast c p (mate c)) <|
  lanes (fun p => fin c p) <|
  lanes (fun p => shipAwait0 c p) <|
  lanes (fun p => shipAwait c 0 p) <|
  lanes (fun p => shipAwait c 1 p) <|
  lanes (fun p => shipAwait c 2 p) <| .ret ⟨⟩

/-- The body: the barrier with the five neighbours, then the steps. -/
def bodyOf (c : Dev nD) : Kern F :=
  signal (leftY c) <| signal (rightY c) <| signal (leftZ c) <| signal (rightZ c) <| signal (mate c) <|
  .op (.semWait barSem (5#32 : BitVec 32).toInt) fun _ => steps c

set_option maxRecDepth 65536 in
/-- The printed body is the body in pieces. -/
theorem body_eq :
    cc0_body (F := F) xM (Memref.isWhole_whole _) oM (Memref.isWhole_whole _) sM (Memref.isWhole_whole _) rM (Memref.isWhole_whole _)
      cc0_scratch2 cc0_scratch3 cc0_scratch4 cc0_scratch5 cc0_scratch6 cc0_scratch7 = .op .deviceId bodyOf := by
  chain_rfl

end Cert.KernelIdeal.RingSum

end

end
-- ==== Proof.Mesh.lean ====
module

public import proofs.«01_k».proof.Proof.Program

/-!
# The mesh and the copies

Where each device sits, who its neighbours are, which block of the result each offset names, and the list
of the remote copies a device makes.
-/

@[expose] public section

noncomputable section

namespace Cert.KernelIdeal.RingSum

open Cert.KernelIdeal Cert.KernelIdeal.Gen
open Idealize.ShloMosaic Idealize.SL.Sem

/-! ## Devices -/

set_option backward.proofsInPublic true in
/-- The first coordinate of a device. -/
def xOf (c : Dev nD) : Fin 2 := ⟨c.val / 16, by have := c.isLt; unfold nD at this; omega⟩
set_option backward.proofsInPublic true in
/-- The second coordinate of a device. -/
def yOf (c : Dev nD) : Fin 4 := ⟨c.val / 4 % 4, Nat.mod_lt _ (by decide)⟩
set_option backward.proofsInPublic true in
/-- The last coordinate of a device. -/
def zOf (c : Dev nD) : Fin 4 := ⟨c.val % 4, Nat.mod_lt _ (by decide)⟩
set_option backward.proofsInPublic true in
/-- The device at given coordinates. -/
def dev (x : Fin 2) (y z : Fin 4) : Dev nD := ⟨16 * x.val + 4 * y.val + z.val, by unfold nD; omega⟩

theorem left_rightY : ∀ c : Dev nD, leftY (rightY c) = c := by decide +kernel
theorem right_leftY : ∀ c : Dev nD, rightY (leftY c) = c := by decide +kernel
theorem left_rightZ : ∀ c : Dev nD, leftZ (rightZ c) = c := by decide +kernel
theorem right_leftZ : ∀ c : Dev nD, rightZ (leftZ c) = c := by decide +kernel
theorem mate_mate : ∀ c : Dev nD, mate (mate c) = c := by decide +kernel

/-- One step along the second axis. -/
def ringY : Dev nD ≃ Dev nD := ⟨rightY, leftY, left_rightY, right_leftY⟩
/-- One step along the last axis. -/
def ringZ : Dev nD ≃ Dev nD := ⟨rightZ, leftZ, left_rightZ, right_leftZ⟩
/-- Across the first axis. -/
def swapX : Dev nD ≃ Dev nD := ⟨mate, mate, mate_mate, mate_mate⟩

/-- The column block `k` before the device's own, around the last axis. -/
abbrev col (c : Dev nD) (k : Fin 4) : Fin 4 := zOf c - k

theorem xOf_leftZ : ∀ c, xOf (leftZ c) = xOf c := by decide +kernel
theorem yOf_leftZ : ∀ c, yOf (leftZ c) = yOf c := by decide +kernel
theorem col_leftZ : ∀ (c : Dev nD) (h : Fin 3), col (leftZ c) h.castSucc = col c h.succ := by decide +kernel
theorem xOf_mate : ∀ c, xOf (mate c) = 1 - xOf c := by decide +kernel
theorem yOf_mate : ∀ c, yOf (mate c) = yOf c := by decide +kernel
theorem zOf_mate : ∀ c, zOf (mate c) = zOf c := by decide +kernel
theorem dev_own : ∀ c, dev (xOf c) (yOf c) (col c 0) = c := by decide +kernel

/-! ## Blocks of the result -/

theorem sl_inb : ∀ (x : Fin 2) (p z : Fin 4), ∀ a,
    (![512 * (x : ℕ) + 128 * (p : ℕ), 128 * (z : ℕ)] : Fin 2 → ℕ) a + S128x128.size a ≤ S1024x512.size a := by decide +kernel

/-- The block of the result in row half `x`, lane `p`, column block `z`. -/
def slM (x : Fin 2) (p z : Fin 4) : Memref sig .tc .vmem S128x128 .f32 :=
  outSl ![512 * (x : ℕ) + 128 * (p : ℕ), 128 * (z : ℕ)] (sl_inb x p z)

theorem outSl_congr {off off' : Fin 2 → ℕ} (e : off = off') (h : ∀ a, off a + S128x128.size a ≤ S1024x512.size a)
    (h' : ∀ a, off' a + S128x128.size a ≤ S1024x512.size a) : outSl off h = outSl off' h' := by
  subst e; rfl

theorem off4_eq : ∀ (c : Dev nD) (p : Fin 4) (h : Fin 3), k0_off4 c (BitVec.ofNat 32 (128 * p.val)) (BitVec.ofNat 32 h.val)
    = ![512 * (xOf c : ℕ) + 128 * (p : ℕ), 128 * (col c h.castSucc : ℕ)] := by decide +kernel
theorem off5_eq : ∀ (c : Dev nD) (p : Fin 4), k0_off5 c (BitVec.ofNat 32 (128 * p.val))
    = ![512 * (xOf c : ℕ) + 128 * (p : ℕ), 128 * (col c 0 : ℕ)] := by decide +kernel
theorem off3_eq : ∀ (c : Dev nD) (p : Fin 4), k0_off3 c (BitVec.ofNat 32 (128 * p.val))
    = ![512 * (xOf c : ℕ) + 128 * (p : ℕ), 128 * (col c 0 : ℕ)] := by decide +kernel
theorem off6_eq : ∀ (c : Dev nD) (p : Fin 4) (h : Fin 3), k0_off6 c (BitVec.ofNat 32 (128 * p.val)) (BitVec.ofNat 32 h.val)
    = ![512 * (xOf c : ℕ) + 128 * (p : ℕ), 128 * (col c h.succ : ℕ)] := by decide +kernel

theorem agOut_eq (c p h) : agOut c p h = slM (xOf c) p (col c h.castSucc) := outSl_congr (off4_eq c p h) _ _
theorem ownOut_eq (c p) : ownOut c p = slM (xOf c) p (col c 0) := outSl_congr (off5_eq c p) _ _
theorem agIn_eq (c p h) : agIn c p h = slM (xOf c) p (col c h.succ) := outSl_congr (off6_eq c p h) _ _

/-! ## Copies -/

/-- The ten copies of a lane: three hops of the reduction, three hops around the last axis, four to the partner. -/
inductive Kd
  | rs (s : Fin 3)
  | ag (h : Fin 3)
  | xs (k : Fin 4)
  deriving DecidableEq

/-- The ten copies of a lane, listed. -/
abbrev kds : List Kd := [.rs 0, .rs 1, .rs 2, .ag 0, .ag 1, .ag 2, .xs 0, .xs 1, .xs 2, .xs 3]

instance : Fintype Kd where
  elems := kds.toFinset
  complete x := by
    match x with
    | .rs s => revert s; decide
    | .ag h => revert h; decide
    | .xs k => revert k; decide

/-- A copy: its lane and which of the lane's ten it is. -/
abbrev T := Fin 4 × Kd

/-- The device a copy goes to. -/
def tgt (t : T) (c : Dev nD) : Dev nD := match t.2 with
  | .rs _ => rightY c
  | .ag _ => rightZ c
  | .xs _ => mate c
/-- The device a copy comes from. -/
def org (t : T) (c : Dev nD) : Dev nD := match t.2 with
  | .rs _ => leftY c
  | .ag _ => leftZ c
  | .xs _ => mate c

theorem org_tgt (t : T) (c : Dev nD) : org t (tgt t c) = c := by
  obtain ⟨p, s | h | k⟩ := t
  exacts [left_rightY c, left_rightZ c, mate_mate c]
theorem tgt_org (t : T) (c : Dev nD) : tgt t (org t c) = c := by
  obtain ⟨p, s | h | k⟩ := t
  exacts [right_leftY c, right_leftZ c, mate_mate c]

/-- Following one copy is a permutation of the devices. -/
def along (t : T) : Dev nD ≃ Dev nD := ⟨tgt t, org t, org_tgt t, tgt_org t⟩

/-- What a copy reads. -/
def srcM (c : Dev nD) (t : T) : Memref sig .tc .vmem S128x128 .f32 := match t.2 with
  | .rs s => slot sM t.1 s
  | .ag h => slM (xOf c) t.1 (col c h.castSucc)
  | .xs k => slM (xOf c) t.1 (col c k)
/-- Where a copy lands. -/
def dstM (c : Dev nD) (t : T) : Memref sig .tc .vmem S128x128 .f32 := match t.2 with
  | .rs s => slot rM t.1 s
  | .ag h => slM (xOf c) t.1 (col c h.castSucc)
  | .xs k => slM (xOf c) t.1 (col c k)

/-- The semaphore that counts a copy as sent (`false`) or arrived (`true`). -/
def semOf (tb : T × Bool) : DmaSem sig := match tb with
  | ((p, .rs s), false) => sem43 cc0_scratch2 p s
  | ((p, .rs s), true) => sem43 cc0_scratch3 p s
  | ((p, .ag h), false) => sem43 cc0_scratch4 p h
  | ((p, .ag h), true) => sem43 cc0_scratch5 p h
  | ((p, .xs k), false) => sem44 cc0_scratch6 p k
  | ((p, .xs k), true) => sem44 cc0_scratch7 p k

/-- Distinct copies are counted on distinct semaphores. -/
theorem semOf_inj : Function.Injective semOf := by
  have h : ∀ a b : T × Bool, semOf a = semOf b → a = b := by decide +kernel
  exact fun a b => h a b

/-- The amount every copy counts: that of one block. -/
abbrev N : ℕ := (slot rM 0 0).view.dmaCredit
theorem N_pos : 0 < N := View.dmaCredit_pos _ (by decide)
theorem dstM_credit (c : Dev nD) (t : T) : (dstM c t).view.dmaCredit = N := by
  obtain ⟨p, s | h | k⟩ := t <;> rfl

/-- A device's copies, in the order it makes them. -/
def sends : List T :=
  ([0, 1, 2] : List (Fin 3)).flatMap (fun s => ([0, 1, 2, 3] : List (Fin 4)).map fun p => (p, .rs s))
    ++ ([0, 1, 2, 3] : List (Fin 4)).flatMap (fun p => [(p, .ag 0), (p, .xs 0)])
    ++ ([0, 1, 2, 3] : List (Fin 4)).flatMap (fun p => [(p, .ag 1), (p, .xs 1)])
    ++ ([0, 1, 2, 3] : List (Fin 4)).flatMap (fun p => [(p, .ag 2), (p, .xs 2)])
    ++ ([0, 1, 2, 3] : List (Fin 4)).map (fun p => (p, .xs 3))

/-- How late in the protocol a copy's arrival is awaited. -/
def rank (t : T) : ℕ := match t.2 with
  | .rs s => 2 + s.val
  | .ag h => 5 + h.val
  | .xs _ => 8

end Cert.KernelIdeal.RingSum

end

end
-- ==== Proof.Schedule.lean ====
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.MemrefSat
public import Idealize.ShloMosaic.Lib.Tactic

/-!
# The contents and the schedule

What every block holds, what every signal and every copy hands over, what a device owes, and the order in
which the devices wait.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the schedule: one record per semaphore. -/
abbrev UB : Type := URounds (GSem nD τ sig) (Fin 5)
/-- The ghost state of the proof: the pipeline's and the schedule's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- The input block of a device. -/
def xv (c : Dev nD) : (cc0_stg0_0 : Ref sig .tc).ty.Contents (Elt F) :=
  (win0_0.blk (0 : Fin 1)).view.read (Elt F) ((s₀ m ρ).mem ((c : Thread nD τ).loc main_arg0))

/-- The chunk of the input that hop `s` adds. -/
def xT (c : Dev nD) (p : Fin 4) (s : Fin 3) : FVec F S128x128 .f32 :=
  xBlk (xM.view.readAt (Elt F) (xR c p s).toLoadRect (xv m ρ c))
/-- The chunk of the input that the last hop adds. -/
def xT2 (c : Dev nD) (p : Fin 4) : FVec F S128x128 .f32 :=
  xBlk (xM.view.readAt (Elt F) (xR2 c p).toLoadRect (xv m ρ c))

/-- The partial sum a device sends at hop `s`. -/
def rsT (s : Fin 3) (c : Dev nD) (p : Fin 4) : FVec F S128x128 .f32 := match s with
  | 0 => xT m ρ c p 0
  | 1 => addf (xT m ρ (leftY c) p 0) (xT m ρ c p 1)
  | 2 => addf (addf (xT m ρ (leftY (leftY c)) p 0) (xT m ρ (leftY c) p 1)) (xT m ρ c p 2)

/-- The finished block of a device in lane `p`. -/
def outT (c : Dev nD) (p : Fin 4) : FVec F S128x128 .f32 := addf (rsT m ρ 2 (leftY c) p) (xT2 m ρ c p)

/-- What block `(x, p, z)` of a device's result is to hold: the finished block of the device of its ring there. -/
def goal (c : Dev nD) (x : Fin 2) (p z : Fin 4) : FVec F S128x128 .f32 := outT m ρ (dev x (yOf c) z) p

/-- The contents a copy carries. -/
def tile (c : Dev nD) (t : T) : FVec F S128x128 .f32 := match t.2 with
  | .rs s => rsT m ρ s c t.1
  | .ag h => goal m ρ c (xOf c) t.1 (col c h.castSucc)
  | .xs k => goal m ρ c (xOf c) t.1 (col c k)

/-- The share of its source a copy holds while it runs. -/
def shr (t : T) : PosShare TreeShare := match t.2 with
  | .rs _ => fullShare
  | .ag _ => fullShare.left
  | .xs _ => fullShare.right

/-! ## Assertions -/

/-- Device `c` owns block `M` with contents `X`. -/
abbrev has (c : Dev nD) (M : Memref sig .tc .vmem S128x128 .f32) (q : PosShare TreeShare) (X : FVec F S128x128 .f32) : sProp 𝕄 :=
  owns (Ix := Unit) (Name := ℕ) (U := UU) (Lvl := ℕ) (Val := Elt F) (c : Thread nD τ) M q X

/-- Device `c` owns block `M` at some contents. -/
def free (c : Dev nD) (M : Memref sig .tc .vmem S128x128 .f32) : sProp 𝕄 :=
  iprop(∃ f : Buf (Elt F) (M.view.loc (c : Thread nD τ)), M.view.loc (c : Thread nD τ) ↦[M.view.set]{fullShare} f)

omit [FloatOps F] in
instance free_storable (c : Dev nD) (M) : BI.Storable (upEmb : UEmb _ 𝕄) (free (F := F) c M) := by unfold free; infer_instance

omit [FloatOps F] in
theorem free_of_has (c : Dev nD) (M) (X : FVec F S128x128 .f32) : has c M fullShare X ⊢ (free c M : sProp 𝕄) := by
  unfold has owns free
  iintro ⟨%f, %hf, H⟩
  iexists f; iexact H

/-- The landing place of a copy of device `c`, owned at some contents. -/
abbrev dstFree (c : Dev nD) (t : T) : sProp 𝕄 := free (F := F) (tgt t c) (dstM c t)

/-! ## The cells -/

abbrev barCell (c : Dev nD) : GSem nD τ sig := ((c : Thread nD τ), .reg barSem)
abbrev cell (c : Dev nD) (tb : T × Bool) : GSem nD τ sig := ((c : Thread nD τ), .dma (semOf tb))

/-- Every semaphore of the protocol: a device's barrier, and one per copy and end. -/
abbrev CI := Dev nD × Option (T × Bool)
abbrev csem : Option (T × Bool) → SemLoc sig := fun | none => .reg barSem | some tb => .dma (semOf tb)
abbrev kcell (ck : CI) : GSem nD τ sig := ((ck.1 : Thread nD τ), csem ck.2)

/-! ## The schedule -/

/-- What the signals of a device's barrier hand it: the landing places of all its copies, by the neighbour they are on. -/
def barPay (c : Dev nD) (d : Fin 5) : sProp 𝕄 := match d with
  | 0 => bigSep Finset.univ fun p : Fin 4 => bigSep Finset.univ fun s : Fin 3 => dstFree c (p, .rs s)
  | 1 => iprop(emp)
  | 2 => bigSep Finset.univ fun p : Fin 4 => bigSep Finset.univ fun h : Fin 3 => dstFree c (p, .ag h)
  | 3 => iprop(emp)
  | 4 => bigSep Finset.univ fun p : Fin 4 => bigSep Finset.univ fun k : Fin 4 => dstFree c (p, .xs k)

/-- What a copy hands over: the source back to the sender (`false`), the landing place to the receiver (`true`). -/
def pay (c : Dev nD) (tb : T × Bool) : sProp 𝕄 := match tb with
  | (t, false) => has c (srcM c t) (shr t) (tile m ρ c t)
  | (t, true) => has c (dstM (org t c) t) fullShare (tile m ρ (org t c) t)

omit [FloatOps F] in
instance barPay_storable (c : Dev nD) (d : Fin 5) : BI.Storable (upEmb : UEmb _ 𝕄) (barPay (F := F) c d) := by
  fin_cases d <;> (unfold barPay; infer_instance)
instance pay_storable (c : Dev nD) (tb : T × Bool) : BI.Storable (upEmb : UEmb _ 𝕄) (pay (F := F) m ρ c tb) := by
  obtain ⟨t, _ | _⟩ := tb <;> (unfold pay; infer_instance)

/-- A semaphore location counts some copy. -/
abbrev IsDma (l : SemLoc sig) : Prop := ∃ tb : T × Bool, l = .dma (semOf tb)

open Classical in
/-- One round: a barrier has five duties of one unit; a copy's semaphore one duty of a block's credit. -/
def Rd : Rounds.Schedule (GSem nD τ sig) (Fin 5) 𝕄 where
  duties g r := if r = 0 ∧ g.1.2 = .tc ∧ g.2 = .reg barSem then Finset.univ
    else if r = 0 ∧ g.1.2 = .tc ∧ IsDma g.2 then {0} else ∅
  unitless _ := False
  amount g _ _ := if g.2 = .reg barSem then 1 else N
  payload g _ d := if g.2 = .reg barSem then barPay g.1.1 d
    else if h : IsDma g.2 then pay m ρ g.1.1 h.choose else iprop(emp)
  amount_pos g _ _ _ := by
    by_cases h : g.2 = .reg barSem
    · rw [if_pos h]; exact Nat.one_pos
    · rw [if_neg h]; exact N_pos

instance Rd_payload_storable (g : GSem nD τ sig) (r : ℕ) (d : Fin 5) :
    BI.Storable (upEmb : UEmb _ 𝕄) ((Rd (F := F) m ρ).payload g r d) := by
  unfold Rd
  dsimp only
  split
  · infer_instance
  · split <;> infer_instance

section Sched
variable (c : Dev nD) (tb : T × Bool)

theorem dma_ne_bar (q : DmaSem sig) : (SemLoc.dma q : SemLoc sig) ≠ .reg barSem := fun h => by cases h

theorem choose_eq (h : IsDma (.dma (semOf tb))) : h.choose = tb := by
  have := h.choose_spec
  exact (semOf_inj (SemLoc.dma.inj this)).symm

theorem duties_bar : (Rd (F := F) m ρ).duties (barCell c) 0 = Finset.univ := by dsimp only [Rd]; exact if_pos ⟨rfl, rfl, rfl⟩
theorem duties_cell : (Rd (F := F) m ρ).duties (cell c tb) 0 = {0} := by
  dsimp only [Rd]; rw [if_neg (fun h => dma_ne_bar _ h.2.2)]; exact if_pos ⟨rfl, rfl, tb, rfl⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 5) : (Rd (F := F) m ρ).amount (barCell c) 0 d = 1 := by dsimp only [Rd]; exact if_pos rfl
theorem amount_cell (d : Fin 5) : (Rd (F := F) m ρ).amount (cell c tb) 0 d = N := by dsimp only [Rd]; exact if_neg (dma_ne_bar _)

theorem expect_bar : (Rd (F := F) m ρ).expect (barCell c) 0 = 5 := by
  unfold Schedule.expect Schedule.amountOf
  rw [duties_bar, Finset.sum_congr rfl fun d _ => amount_bar m ρ c d, Finset.sum_const, Finset.card_univ, Fintype.card_fin, smul_eq_mul]
theorem expect_cell : (Rd (F := F) m ρ).expect (cell c tb) 0 = N := by
  unfold Schedule.expect Schedule.amountOf; rw [duties_cell, Finset.sum_singleton, amount_cell]

theorem payload_bar (d : Fin 5) : (Rd (F := F) m ρ).payload (barCell c) 0 d = barPay c d := by dsimp only [Rd]; exact if_pos rfl
theorem payload_cell (d : Fin 5) : (Rd (F := F) m ρ).payload (cell c tb) 0 d = pay m ρ c tb := by
  have h : IsDma (cell c tb).2 := ⟨tb, rfl⟩
  dsimp only [Rd]; rw [if_neg (dma_ne_bar _), dif_pos h, choose_eq tb h]

/-- All that a device's barrier hands it. -/
theorem rest_bar : bigSep ((Rd (F := F) m ρ).duties (barCell c) 0 \ ∅) (fun d => (Rd (F := F) m ρ).payload (barCell c) 0 d)
    = iprop(barPay c 0 ∗ barPay c 1 ∗ barPay c 2 ∗ barPay c 3 ∗ barPay c 4) := by
  rw [Finset.sdiff_empty, duties_bar, bigSep_univ_eq_bigSepL [0, 1, 2, 3, 4] (by decide) (by decide)]
  simp only [bigSepL_cons_cons, bigSepL_singleton, payload_bar]
  rfl
/-- All that a copy's semaphore hands over. -/
theorem rest_cell : bigSep ((Rd (F := F) m ρ).duties (cell c tb) 0 \ ∅) (fun d => (Rd (F := F) m ρ).payload (cell c tb) 0 d)
    = pay m ρ c tb := by
  rw [Finset.sdiff_empty, duties_cell, bigSep_singleton, payload_cell]

end Sched

/-! ## What a device owes; the order of waits -/

/-- What a device still owes with a list of copies to make: their arrivals. -/
def dues (c : Dev nD) : List T → CellTallies nD τ sig Unit
  | [] => 0
  | t :: l => dues c l + tallyAt (cell (tgt t c) (t, true)) () N

/-- What a device owes after its first `n` copies. -/
abbrev owed (c : Dev nD) (n : ℕ) : CellTallies nD τ sig Unit := dues c (sends.drop n)

/-- What a device owes at launch: all its copies, and a unit to the barrier of every neighbour, the first signal last. -/
def owed₀ (c : Dev nD) : CellTallies nD τ sig Unit :=
  owed c 0 + tallyAt (barCell (mate c)) () 1 + tallyAt (barCell (rightZ c)) () 1 + tallyAt (barCell (leftZ c)) () 1
    + tallyAt (barCell (rightY c)) () 1 + tallyAt (barCell (leftY c)) () 1

def L (g : GSem nD τ sig) : Finset Unit := if g.1.2 = .tc then {()} else ∅

/-- The level of a location: a barrier at 1, an arrival by the rank of its copy, everything else at 0. -/
def lvl (tb : T × Bool) : ℕ := match tb with
  | (t, true) => rank t
  | (_, false) => 0

open Classical in
def lv (g : GSem nD τ sig) (_ : Unit) : ℕ :=
  if g.2 = .reg barSem then 1 else if h : IsDma g.2 then lvl h.choose else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_cell (c : Dev nD) (tb : T × Bool) : lv (cell c tb) () = lvl tb := by
  have h : IsDma (cell c tb).2 := ⟨tb, rfl⟩
  unfold lv; rw [if_neg (dma_ne_bar _), dif_pos h, choose_eq tb h]
theorem lv_other (c : Dev nD) (q : DmaSem sig) (hq : ¬ IsDma (.dma q)) : lv ((c : Thread nD τ), .dma q) () = 0 := by
  unfold lv; rw [if_neg (dma_ne_bar _), dif_neg hq]

theorem tallyAt_pos {g g' : GSem nD τ sig} {n : ℕ} {u : Unit} (h : 0 < tallyAt g () n g' u) : g' = g := by
  rw [tallyAt_apply] at h
  by_contra hn
  rw [if_neg (fun h' => hn h'.1)] at h
  exact Nat.lt_irrefl 0 h

theorem add_pos_cases {A B : CellTallies nD τ sig Unit} {g : GSem nD τ sig} {u : Unit} (h : 0 < (A + B) g u) : 0 < A g u ∨ 0 < B g u := by
  rw [Pi.add_apply, Finsupp.add_apply] at h; omega

theorem dues_pos {c : Dev nD} {g : GSem nD τ sig} {u : Unit} : ∀ {l : List T}, 0 < dues c l g u → ∃ t ∈ l, g = cell (tgt t c) (t, true)
  | [], h => absurd h (Nat.lt_irrefl 0)
  | t :: l, h => by
    rcases add_pos_cases h with h | h
    · obtain ⟨t', ht', e⟩ := dues_pos h; exact ⟨t', List.mem_cons_of_mem _ ht', e⟩
    · exact ⟨t, List.mem_cons_self, tallyAt_pos h⟩

theorem owed₀_pos {c : Dev nD} {g : GSem nD τ sig} {u : Unit} (h : 0 < owed₀ c g u) :
    (∃ t ∈ sends, g = cell (tgt t c) (t, true)) ∨ ∃ d, g = barCell d := by
  unfold owed₀ at h
  rcases add_pos_cases h with h | h
  · rcases add_pos_cases h with h | h
    · rcases add_pos_cases h with h | h
      · rcases add_pos_cases h with h | h
        · rcases add_pos_cases h with h | h
          · exact .inl (dues_pos h)
          · exact .inr ⟨_, tallyAt_pos h⟩
        · exact .inr ⟨_, tallyAt_pos h⟩
      · exact .inr ⟨_, tallyAt_pos h⟩
    · exact .inr ⟨_, tallyAt_pos h⟩
  · exact .inr ⟨_, tallyAt_pos h⟩

theorem rank_pos (t : T) : 1 < rank t := by
  obtain ⟨p, s | h | k⟩ := t <;> (simp only [rank]; omega)

omit [FloatOps F] in
/-- A device may wait at level `n` while the copies it has still to make all rank higher. -/
theorem mayWait_of (c : Dev nD) (sm : SemLoc sig) (n : ℕ) (l : List T) (hs : lv ((c : Thread nD τ), sm) () = n)
    (hl : ∀ t ∈ l, n < rank t) : (levAts L lv : sProp 𝕄) ⊢ MayWait (c : Thread nD τ) sm () (dues c l) :=
  MayOwe.of_cut (L := L) (lev := lv) n (fun p hp => by rw [Finset.mem_singleton.mp hp, L_tc]; exact Finset.mem_singleton_self _)
    (fun g u hg => by obtain ⟨t, -, rfl⟩ := dues_pos hg; rw [L_tc]; exact Finset.mem_singleton_self _)
    (fun p hp => by rw [Finset.mem_singleton.mp hp]; exact hs.le)
    (fun g u hg => by obtain ⟨t, ht, rfl⟩ := dues_pos hg; rw [lv_cell]; exact hl t ht)

omit [FloatOps F] in
/-- A device may wait for the staging of its blocks whatever it owes. -/
theorem mayWait_stage (c : Dev nD) (q : DmaSem sig) (hq : ¬ IsDma (.dma q)) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owed₀_pos hg with ⟨t, -, rfl⟩ | ⟨d, rfl⟩ <;> (rw [L_tc]; exact Finset.mem_singleton_self _))
      (fun p hp => by rw [Finset.mem_singleton.mp hp]; exact (lv_other c q hq).le)
      (fun g u hg => by
        rcases owed₀_pos hg with ⟨t, -, rfl⟩ | ⟨d, rfl⟩
        · rw [lv_cell]; exact lt_trans Nat.zero_lt_one (rank_pos t)
        · rw [lv_bar]; exact Nat.zero_lt_one)
  · rw [MayWait_zero]; iintro -; iempintro

/-! ## The records of all cells -/

/-- Every cell's invariant, under the names the launch gives them, and that every cell is open. -/
def records (K : CI → ℕ) : sProp 𝕄 :=
  bigSep Finset.univ fun ck : CI => iprop(cellInv ER (Rd m ρ) (K ck) (kcell ck) ∗ reached ER (kcell ck) 0)

instance records_persistent (K : CI → ℕ) : BI.Persistent (records (F := F) m ρ K) := by unfold records; infer_instance

theorem record (K : CI → ℕ) (ck : CI) : records (F := F) m ρ K ⊢ iprop(cellInv ER (Rd m ρ) (K ck) (kcell ck) ∗ reached ER (kcell ck) 0) := by
  unfold records
  rw [bigSep_univ_at _ ck]
  iintro ⟨H, -⟩
  iexact H

end Cert.KernelIdeal.RingSum

end

end
-- ==== Proof.Steps.lean ====
module

public import proofs.«01_k».proof.Proof.Schedule
public import Idealize.ShloMosaic.Lib.Pipeline.Value

/-!
# The steps' specifications

Each kind of step the body is made of, with what it takes and what it leaves; and the rules that put steps
together.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : CI → ℕ)

abbrev 𝒱₀ : Variants := Variants.none

/-- Assertions. -/
abbrev Res (F : FTy → Type) := sProp (MT nD τ sig Unit (Elt F) ℕ UU ℕ)

/-- A program of device `c` runs to `Q`. -/
abbrev runs (c : Dev nD) (k : Kern F) (Q : PUnit → sProp 𝕄) : sProp 𝕄 :=
  wp frame (wpE (defs₀ (F := F)) 𝒱₀ (c : Thread nD τ) none) Set.univ k Q

/-- The staged input block. -/
abbrev xPts (c : Dev nD) : sProp 𝕄 := iprop(((c : Thread nD τ).loc cc0_stg0_0) ↦{fullShare} xv m ρ c)

/-- What every step has at hand: the records, the input block, and what the device owes after `n` copies. -/
def Env (c : Dev nD) (n : ℕ) : sProp 𝕄 :=
  iprop((records m ρ K ∗ levAts L lv) ∗ xPts m ρ c ∗ ∃ W : Waits sig Unit, owes (c : Thread nD τ) (owed c n) W)

/-- Before a copy: its two duties, the sender's place at the send's record, and the landing place. -/
def snd (c : Dev nD) (t : T) : sProp 𝕄 :=
  iprop(atPos ER (cell c (t, false)) 0 ∅ 0 ∗ dutyTok ER (cell c (t, false)) 0 0 ∗ dutyTok ER (cell (tgt t c) (t, true)) 0 0
    ∗ dstFree c t)
/-- Before an arrival: the receiver's place at its record, and the credit to wait for. -/
def rcv (c : Dev nD) (t : T) : sProp 𝕄 :=
  iprop(atPos ER (cell c (t, true)) 0 ∅ 0 ∗ cred (tallyAt (cell c (t, true)) () N))
/-- A copy on its way. -/
def fly (c : Dev nD) (t : T) : sProp 𝕄 :=
  iprop(atPos ER (cell c (t, false)) 0 ∅ 0 ∗ cred (tallyAt (cell c (t, false)) () N))
/-- A semaphore at zero again. -/
abbrev zero (c : Dev nD) (tb : T × Bool) : sProp 𝕄 := semVal (cell c tb) 0

omit [FloatOps F] in
/-- Four lanes, one by one. -/
theorem bigSep_four (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- `f`, run when `n` copies are made, makes them `n'` and turns `A` into `B`. -/
def Step (c : Dev nD) (f : Kern F → Kern F) (n n' : ℕ) (A B : sProp 𝕄) : Prop :=
  ∀ (k : Kern F) (Q : PUnit → sProp 𝕄), iprop(Env m ρ K c n ∗ A ∗ ((B ∗ Env m ρ K c n') -∗ runs c k Q)) ⊢ runs c (f k) Q

section Rules
variable {m ρ K} {c : Dev nD} {f g : Kern F → Kern F} {n n' n'' : ℕ} {A A' B B' C R : Res F}

/-- What a step does, as an entailment. -/
theorem Step.run (h : Step m ρ K c f n n' A B) (k : Kern F) (Q : PUnit → sProp 𝕄) :
    iprop(Env m ρ K c n ∗ A ∗ ((B ∗ Env m ρ K c n') -∗ runs c k Q)) ⊢ runs c (f k) Q := h k Q

/-- One step after another. -/
theorem Step.seq (h : Step m ρ K c f n n' A B) (h' : Step m ρ K c g n' n'' B C) : Step m ρ K c (fun k => f (g k)) n n'' A C := by
  intro k Q
  iintro ⟨HE, HA, Hk⟩
  iapply (h.run (g k) Q)
  isplitl [HE]; · iexact HE
  isplitl [HA]; · iexact HA
  iintro ⟨HB, HE⟩
  iapply (h'.run k Q)
  isplitl [HE]; · iexact HE
  isplitl [HB]; · iexact HB
  iexact Hk

/-- A step leaves alone what it does not take. -/
theorem Step.frame (R : sProp 𝕄) (h : Step m ρ K c f n n' A B) : Step m ρ K c f n n' iprop(A ∗ R) iprop(B ∗ R) := by
  intro k Q
  iintro ⟨HE, ⟨HA, HR⟩, Hk⟩
  iapply (h.run k Q)
  isplitl [HE]; · iexact HE
  isplitl [HA]; · iexact HA
  iintro ⟨HB, HE⟩
  iapply Hk
  isplitr [HE]
  · isplitl [HB]; · iexact HB
    iexact HR
  iexact HE

/-- A step may be given more than it asks for, and its outcome weakened. -/
theorem Step.conseq (hA : A' ⊢ A) (hB : B ⊢ B') (h : Step m ρ K c f n n' A B) : Step m ρ K c f n n' A' B' := by
  intro k Q
  iintro ⟨HE, HA, Hk⟩
  iapply (h.run k Q)
  isplitl [HE]; · iexact HE
  isplitl [HA]; · iapply hA; iexact HA
  iintro ⟨HB, HE⟩
  iapply Hk
  isplitl [HB]; · iapply hB; iexact HB
  iexact HE

/-- The same step in every lane, each making `d` copies. -/
theorem Step.lanes {f : Fin 4 → Kern F → Kern F} {A B : Fin 4 → sProp 𝕄} (n d n' : ℕ)
    (h : ∀ p : Fin 4, Step m ρ K c (f p) (n + d * p.val) (n + d * (p.val + 1)) (A p) (B p)) (hn : n' = n + d * 4) :
    Step m ρ K c (lanes f) n n' (bigSep Finset.univ A) (bigSep Finset.univ B) := by
  subst hn
  rw [bigSep_four, bigSep_four]
  intro k Q
  iintro ⟨HE, ⟨HA0, HA1, HA2, HA3⟩, Hk⟩
  unfold RingSum.lanes
  iapply ((h 0).run _ Q)
  isplitl [HE]; · iexact HE
  isplitl [HA0]; · iexact HA0
  iintro ⟨HB0, HE⟩
  iapply ((h 1).run _ Q)
  isplitl [HE]; · iexact HE
  isplitl [HA1]; · iexact HA1
  iintro ⟨HB1, HE⟩
  iapply ((h 2).run _ Q)
  isplitl [HE]; · iexact HE
  isplitl [HA2]; · iexact HA2
  iintro ⟨HB2, HE⟩
  iapply ((h 3).run _ Q)
  isplitl [HE]; · iexact HE
  isplitl [HA3]; · iexact HA3
  iintro ⟨HB3, HE⟩
  iapply Hk
  isplitr [HE]
  · isplitl [HB0]; · iexact HB0
    isplitl [HB1]; · iexact HB1
    isplitl [HB2]; · iexact HB2
    iexact HB3
  iexact HE

end Rules

section Prims
variable {m ρ K} {c : Dev nD} {n n' : ℕ} {A B : Res F}

/-- A copy, its source at the contents it is to carry. -/
theorem step_ship (t : T) (i : ℕ) (hi : sends.drop i = t :: sends.drop (i + 1)) {src dst : Memref sig .tc .vmem S128x128 .f32}
    (hsrc : src = srcM c t) (hdst : dst = dstM c t) (hs hd) :
    Step m ρ K c (ship src dst hs hd (tgt t c) (semOf (t, false)) (semOf (t, true))) i (i + 1)
      iprop(has c (srcM c t) (shr t) (tile m ρ c t) ∗ snd c t) (fly c t) := by
  subst hsrc hdst
  intro k Q
  unfold Env snd fly has owns dstFree free ship
  iintro ⟨⟨⟨#Hrec, #Hlev⟩, Hx, ⟨%W, HO⟩⟩, ⟨⟨%fs, %hfs, Hsrc⟩, Hat, Htk, Htk', ⟨%fd, Hdst⟩⟩, Hk⟩
  ihave H1 := (record m ρ K (c, some (t, false))) $$ Hrec
  ihave H2 := (record m ρ K (tgt t c, some (t, true))) $$ Hrec
  icases H1 with ⟨#HI1, #HR1⟩
  icases H2 with ⟨#HI2, #HR2⟩
  iapply (Rounds.wp_send_pointsTo 𝒱₀ ER (Rd m ρ) (c : Thread nD τ) none (κ₁ := K (c, some (t, false))) (κ₂ := K (tgt t c, some (t, true)))
    (r₁ := 0) (r₂ := 0) (d₁ := 0) (d₂ := 0) (fs := fs) (fd := fd) (q := shr t)
    (sem := .dma (semOf (t, true))) (sS := .dma (semOf (t, false)))
    (by rw [duties_cell]; exact Finset.mem_singleton_self _) (by rw [duties_cell]; exact Finset.mem_singleton_self _)
    () () N (dstM_credit c t) (amount_cell m ρ c (t, false) 0) (amount_cell m ρ (tgt t c) (t, true) 0) (owed c (i + 1))
    (O₀ := owed c i) (by unfold owed; rw [hi]; rfl) (W := W)
    (by
      rw [payload_cell]; unfold pay has owns
      iintro H; iexists fs; isplitr; · (ipureintro; exact hfs)
      iexact H)
    (by
      rw [payload_cell]; unfold pay has owns
      dsimp only
      rw [org_tgt]
      iintro H
      iexists (dstM c t).view.write (Elt F) fd ((srcM c t).view.read (Elt F) fs) Finset.univ
      isplitr; · ipureintro; exact (View.read_write_univ (v := (dstM c t).view) fd _).trans hfs
      iexact H)) $$ [Hsrc Hdst HO Htk Htk']
  · isplitr; · iexact HI1
    isplitr; · iexact HI2
    isplitl [Hsrc]; · iexact Hsrc
    isplitl [Hdst]; · iexact Hdst
    isplitl [HO]; · iexact HO
    isplitl [Htk]; · iexact Htk
    isplitr; · iexact HR1
    isplitl [Htk']; · iexact Htk'
    iexact HR2
  iintro ⟨Hc, HO⟩
  iapply Hk
  isplitl [Hat Hc]
  · isplitl [Hat]; · iexact Hat
    iexact Hc
  isplitr; · isplitr <;> iassumption
  isplitl [Hx]; · iexact Hx
  iexists W; iexact HO

/-- A wait on the semaphore of a copy's end: what the copy hands over there. -/
theorem step_await (tb : T × Bool) (i : ℕ) (hi : ∀ u ∈ sends.drop i, lvl tb < rank u) (src : Memref sig .tc .vmem S128x128 .f32)
    {dst : Memref sig .tc .vmem S128x128 .f32} (hdst : dst.view.dmaCredit = N) (hs hd) :
    Step m ρ K c (await (semOf tb) src dst hs hd) i i
      iprop(atPos ER (cell c tb) 0 ∅ 0 ∗ cred (tallyAt (cell c tb) () N)) iprop(pay m ρ c tb ∗ zero c tb) := by
  intro k Q
  unfold Env await
  iintro ⟨⟨⟨#Hrec, #Hlev⟩, Hx, ⟨%W, HO⟩⟩, ⟨Hat, Hc⟩, Hk⟩
  ihave H1 := (record m ρ K (c, some tb)) $$ Hrec
  icases H1 with ⟨#HI, #HR⟩
  iapply (Rounds.wp_wait_rest_token 𝒱₀ ER (Rd m ρ) (c : Thread nD τ) none (κ := K (c, some tb))
      (wpE_waitDma2_eq 𝒱₀ (c : Thread nD τ) none Set.univ) (Set.mem_univ _) () (O := owed c i) (W := W) (R := 0) (m := 0) (T := ∅)
      (by rw [Nat.zero_add, expect_cell, hdst])) $$ [Hc HO Hat]
  · isplitr; · iexact HI
    isplitl [Hc]; · rw [hdst]; iexact Hc
    isplitl [HO]; · iexact HO
    isplitr; · iapply (mayWait_of c (.dma (semOf tb)) (lvl tb) (sends.drop i) (lv_cell c tb) hi); iexact Hlev
    iexact Hat
  iintro ⟨HO, Hat, -, Hpay⟩
  ihave Hp := (Entails.of_eq (rest_cell m ρ c tb)) $$ Hpay
  imod (Rounds.cell_close ER (Rd m ρ) (Set.mem_univ (K (c, some tb))) (fun h => h) (R := 0 + 1) (duties_later m ρ (cell c tb))) $$ [Hat] with Hz
  · isplitr; · iexact HI
    iexact Hat
  iapply Hk
  isplitl [Hp Hz]
  · isplitl [Hp]; · iexact Hp
    iexact Hz
  isplitr; · isplitr <;> iassumption
  isplitl [Hx]; · iexact Hx
  iexists _; iexact HO

/-- The wait for the end of a copy's send: the source is the sender's again. -/
theorem step_sent (t : T) (i : ℕ) (src : Memref sig .tc .vmem S128x128 .f32)
    {dst : Memref sig .tc .vmem S128x128 .f32} (hdst : dst.view.dmaCredit = N) (hs hd) :
    Step m ρ K c (await (semOf (t, false)) src dst hs hd) i i (fly c t)
      iprop(has c (srcM c t) (shr t) (tile m ρ c t) ∗ zero c (t, false)) :=
  step_await (t, false) i (fun u _ => lt_trans Nat.zero_lt_one (rank_pos u)) src hdst hs hd

/-- The wait for a copy's arrival: the landing place is the receiver's, with what the copy carried. -/
theorem step_arrived (t : T) (i : ℕ) (hi : ∀ u ∈ sends.drop i, rank t < rank u) (src : Memref sig .tc .vmem S128x128 .f32)
    {dst : Memref sig .tc .vmem S128x128 .f32} (hdst : dst.view.dmaCredit = N) (hs hd) :
    Step m ρ K c (await (semOf (t, true)) src dst hs hd) i i (rcv c t)
      iprop(has c (dstM (org t c) t) fullShare (tile m ρ (org t c) t) ∗ zero c (t, true)) :=
  step_await (t, true) i hi src hdst hs hd

/-- A load of the input. -/
theorem step_load_x (R : LoadRect S1x1024x2048) (hl) {g : (R.shape.Idx → Elt F .f32) → Kern F → Kern F}
    (h : Step m ρ K c (g (xM.view.readAt (Elt F) R (xv m ρ c))) n n' A B) :
    Step m ρ K c (fun k => .op (.load xM R hl) fun v => g v k) n n' A B := by
  intro k Q
  iintro ⟨HE, HA, Hk⟩
  unfold Env
  icases HE with ⟨#Hrec, Hx, HO⟩
  iapply (wp_load 𝒱₀ (c : Thread nD τ) none Set.univ (m := xM) (Finset.subset_univ _)) $$ Hx
  iintro Hx
  iapply (h.run k Q)
  unfold Env
  isplitl [Hx HO]
  · isplitr; · iexact Hrec
    isplitl [Hx]; · iexact Hx
    iexact HO
  isplitl [HA]; · iexact HA
  iexact Hk

theorem slot_set (M : Memref sig .tc .vmem S4x3x128x128 .f32) (p : Fin 4) (s : Fin 3) :
    (slot M p s).view.set = (M.access (slotR p s)).set := by
  unfold slot; rw [Memref.set_view_squeeze]

/-- A slot reads as the load of its rectangle does. -/
theorem slot_read (M : Memref sig .tc .vmem S4x3x128x128 .f32) (p : Fin 4) (s : Fin 3) (f : M.view.ty.Contents (Elt F)) :
    (slot M p s).view.read (Elt F) f = rBlk (M.view.readAt (Elt F) (slotR p s).toLoadRect f) := rfl

/-- A slot's elements, held as those of its rectangle. -/
theorem slot_pts (M : Memref sig .tc .vmem S4x3x128x128 .f32) (p : Fin 4) (s : Fin 3)
    (f : Buf (Elt F) ((M.access (slotR p s)).loc (c : Thread nD τ))) :
    ((slot M p s).view.loc (c : Thread nD τ) ↦[(slot M p s).view.set]{fullShare} f : sProp 𝕄)
      = ((M.access (slotR p s)).loc (c : Thread nD τ) ↦[(M.access (slotR p s)).set]{fullShare} f) := by
  rw [slot_set]; rfl

theorem rBlk_toSlot (w : FVec F S128x128 .f32) : rBlk (toSlot w) = w := by
  unfold rBlk toSlot; rw [shapeCast_shapeCast]

/-- A load of a slot at known contents. -/
theorem step_load_slot (p : Fin 4) (s : Fin 3) (X : FVec F S128x128 .f32) (hl)
    {g : ((slotR p s).toLoadRect.shape.Idx → Elt F .f32) → Kern F → Kern F}
    (h : ∀ v, rBlk v = X → Step m ρ K c (g v) n n' iprop(has c (slot rM p s) fullShare X ∗ A) B) :
    Step m ρ K c (fun k => .op (.load rM (slotR p s).toLoadRect hl) fun v => g v k) n n' iprop(has c (slot rM p s) fullShare X ∗ A) B := by
  intro k Q
  iintro ⟨HE, ⟨HX, HA⟩, Hk⟩
  unfold has owns
  icases HX with ⟨%f, %hf, Hp⟩
  ihave Hp := (Entails.of_eq (slot_pts rM p s f)) $$ Hp
  iapply (wp_load_rect 𝒱₀ (c : Thread nD τ) none Set.univ (m := rM) (r := slotR p s) (q := fullShare) (f := f)
    (Finset.Subset.refl _)) $$ Hp
  iintro Hp
  ihave Hp := (Entails.of_eq (slot_pts rM p s f).symm) $$ Hp
  iapply ((h _ ((slot_read rM p s f).symm.trans hf)).run k Q)
  isplitl [HE]; · iexact HE
  isplitr [Hk]
  · isplitl [Hp]
    · unfold has owns; iexists f; isplitr; · (ipureintro; exact hf)
      iexact Hp
    iexact HA
  iexact Hk

/-- A store to a slot. -/
theorem step_slotStore (p : Fin 4) (s : Fin 3) (w : FVec F S128x128 .f32) :
    Step m ρ K c (slotStore p s w) n n (free c (slot sM p s)) (has c (slot sM p s) fullShare w) := by
  intro k Q
  unfold slotStore free
  iintro ⟨HE, ⟨%f, Hp⟩, Hk⟩
  ihave Hp := (Entails.of_eq (slot_pts sM p s f)) $$ Hp
  iapply (wp_load_rect 𝒱₀ (c : Thread nD τ) none Set.univ (m := sM) (r := slotR p s) (q := fullShare) (f := f)
    (Finset.Subset.refl _)) $$ Hp
  iintro Hp
  iapply (wp_store 𝒱₀ (c : Thread nD τ) none Set.univ (m := sM) (r := slotR p s) (Mk := Finset.univ) (f := f)
    (S := (sM.access (slotR p s)).set) (Finset.Subset.refl _)) $$ Hp
  iintro Hp
  ihave Hp := (Entails.of_eq (slot_pts sM p s _).symm) $$ Hp
  iapply Hk
  isplitl [Hp]
  · unfold has owns
    iexists _; isplitr
    · ipureintro
      exact (slot_read sM p s _).trans ((congrArg rBlk (View.read_write_univ (v := sM.access (slotR p s)) f (toSlot w))).trans (rBlk_toSlot w))
    iexact Hp
  iexact HE

/-- The block a device stores itself is that of its own rows and column. -/
theorem oR_eq (c : Dev nD) (p : Fin 4) : oM.slice (oR c p) (fun _ => rfl) = slM (xOf c) p (col c 0) := outSl_congr (off3_eq c p) _ _

/-- The store of a device's own block (after a load of it whose value is not used). -/
theorem step_outStore (p : Fin 4) (w : FVec F S128x128 .f32) (hl hst hm) :
    Step m ρ K c (fun k => .op (.load oM (oR c p).toLoadRect hl) fun _ => .op (.store oM (oR c p) w Finset.univ hst hm) fun _ => k) n n
      (free c (slM (xOf c) p (col c 0))) (has c (slM (xOf c) p (col c 0)) fullShare w) := by
  rw [← oR_eq c p]
  intro k Q
  unfold free
  iintro ⟨HE, ⟨%f, Hp⟩, Hk⟩
  iapply (wp_load_rect 𝒱₀ (c : Thread nD τ) none Set.univ (m := oM) (r := oR c p) (q := fullShare) (f := f)
    (S := (oM.slice (oR c p) (fun _ => rfl)).view.set) (Finset.Subset.refl _)) $$ Hp
  iintro Hp
  iapply (wp_store 𝒱₀ (c : Thread nD τ) none Set.univ (m := oM) (r := oR c p) (Mk := Finset.univ) (f := f)
    (S := (oM.slice (oR c p) (fun _ => rfl)).view.set) (Finset.Subset.refl _)) $$ Hp
  iintro Hp
  iapply Hk
  isplitl [Hp]
  · unfold has owns
    iexists _; isplitr
    · ipureintro
      exact View.read_write_univ (v := oM.access (oR c p)) f w
    iexact Hp
  iexact HE

end Prims

end Cert.KernelIdeal.RingSum

end

end
-- ==== Proof.Lanes.lean ====
module

public import proofs.«01_k».proof.Proof.Steps

/-!
# The phases of a lane

What each phase of the body takes and leaves in one lane, and the twelve phases put together.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : CI → ℕ)

/-! ## Where the copies are in the order, and what is still to be made at each wait -/

theorem drop_rs : ∀ (p : Fin 4) (s : Fin 3), sends.drop (4 * s.val + p.val) = (p, .rs s) :: sends.drop (4 * s.val + p.val + 1) := by decide +kernel
theorem drop_ag : ∀ (p : Fin 4) (h : Fin 3), sends.drop (12 + 8 * h.val + 2 * p.val) = (p, .ag h) :: sends.drop (12 + 8 * h.val + 2 * p.val + 1) := by
  decide +kernel
theorem drop_xs : ∀ (p : Fin 4) (h : Fin 3),
    sends.drop (12 + 8 * h.val + 2 * p.val + 1) = (p, .xs h.castSucc) :: sends.drop (12 + 8 * h.val + 2 * p.val + 1 + 1) := by decide +kernel
theorem drop_xs3 : ∀ (p : Fin 4), sends.drop (36 + p.val) = (p, .xs 3) :: sends.drop (36 + p.val + 1) := by decide +kernel

/-- All copies from hop `s + 1` of the reduction on are awaited after hop `s`. -/
theorem late_rs : ∀ (p : Fin 4) (s : Fin 3), ∀ u ∈ sends.drop (4 * (s.val + 1) + p.val), 2 + s.val < rank u := by decide +kernel
theorem late_out : ∀ (p : Fin 4), ∀ u ∈ sends.drop (12 + 2 * p.val), 4 < rank u := by decide +kernel
/-- All copies from hop `h + 1` of the last axis on are awaited after hop `h`. -/
theorem late_ag : ∀ (p : Fin 4) (h : Fin 2), ∀ u ∈ sends.drop (20 + 8 * h.val + 2 * p.val), 5 + h.val < rank u := by decide +kernel
theorem late_ag2 : ∀ (p : Fin 4), ∀ u ∈ sends.drop (36 + p.val), 7 < rank u := by decide +kernel

theorem slot_credit (M : Memref sig .tc .vmem S4x3x128x128 .f32) (p : Fin 4) (s : Fin 3) : (slot M p s).view.dmaCredit = N := rfl
theorem outSl_credit (off : Fin 2 → ℕ) (h) : (outSl off h).view.dmaCredit = N := rfl

/-! ## The steps after a wait -/

/-- Adding this device's chunk to a block and sending the sum. -/
def nextX (c : Dev nD) (p : Fin 4) (s' : Fin 3) (n : Dev nD) (b : FVec F S128x128 .f32) (k : Kern F) : Kern F :=
  .op (.load xM (xR c p s').toLoadRect (View.loadsAt_vmem h_S1x128x128)) fun w => slotStore p s' (addf b (xBlk w)) <| rsShip p s' n k
/-- What follows the waits of hop `s`. -/
def nextR (c : Dev nD) (p : Fin 4) (s s' : Fin 3) (n : Dev nD) (k : Kern F) : Kern F :=
  .op (.load rM (slotR p s).toLoadRect (View.loadsAt_vmem h_S1x1x128x128)) fun v => nextX c p s' n (rBlk v) k
theorem rsNext_eq (c : Dev nD) (p : Fin 4) (s s' : Fin 3) (n : Dev nD) :
    rsNext (F := F) c p s s' n = fun k => rsAwait p s (nextR c p s s' n k) := rfl

/-- Storing a finished block. -/
def outO (c : Dev nD) (p : Fin 4) (b : FVec F S128x128 .f32) (k : Kern F) : Kern F :=
  .op (.load oM (oR c p).toLoadRect (View.loadsAt_vmem h_S128x128)) fun _ =>
  .op (.store oM (oR c p) b Finset.univ (View.stores_vmem_bits_univ h_S128x128 rfl) (.inl rfl)) fun _ => k
/-- Sending a finished block both ways. -/
def outShip (c : Dev nD) (p : Fin 4) (n n' : Dev nD) (k : Kern F) : Kern F :=
  agShip c p 0 n <|
  ship (ownOut c p) (ownOut c p) (outSl_exact _ _) (outSl_exact _ _) n' (sem44 cc0_scratch6 p 0) (sem44 cc0_scratch7 p 0) k
/-- Adding this device's last chunk, storing the finished block and sending it. -/
def outX (c : Dev nD) (p : Fin 4) (n n' : Dev nD) (b : FVec F S128x128 .f32) (k : Kern F) : Kern F :=
  .op (.load xM (xR2 c p).toLoadRect (View.loadsAt_vmem h_S1x128x128)) fun w => outO c p (addf b (xBlk w)) (outShip c p n n' k)
/-- What follows the waits of the last hop of the reduction. -/
def outR (c : Dev nD) (p : Fin 4) (n n' : Dev nD) (k : Kern F) : Kern F :=
  .op (.load rM (slotR p 2).toLoadRect (View.loadsAt_vmem h_S1x1x128x128)) fun v => outX c p n n' (rBlk v) k
theorem outStep_eq (c : Dev nD) (p : Fin 4) (n n' : Dev nD) :
    outStep (F := F) c p n n' = fun k => rsAwait p 2 (outR c p n n' k) := rfl

/-! ## The blocks of the result a device ends with -/

/-- A block of the device's own rows, finished. -/
abbrev mine (c : Dev nD) (p k : Fin 4) (q : PosShare TreeShare) : sProp 𝕄 :=
  has c (slM (xOf c) p (col c k)) q (goal m ρ c (xOf c) p (col c k))
/-- A block of the partner's rows, finished. -/
abbrev got (c : Dev nD) (p k : Fin 4) : sProp 𝕄 :=
  has c (slM (1 - xOf c) p (col c k)) fullShare (goal m ρ c (1 - xOf c) p (col c k))

theorem goal_leftZ (c : Dev nD) (x p z) : goal m ρ (leftZ c) x p z = goal m ρ c x p z := by unfold goal; rw [yOf_leftZ]
theorem goal_mate (c : Dev nD) (x p z) : goal m ρ (mate c) x p z = goal m ρ c x p z := by unfold goal; rw [yOf_mate]
theorem goal_own (c : Dev nD) (p) : goal m ρ c (xOf c) p (col c 0) = outT m ρ c p := by unfold goal; rw [dev_own]

/-- What arrives from the neighbour on the last axis is a finished block of the device's own rows. -/
theorem ag_arrived (c : Dev nD) (p : Fin 4) (h : Fin 3) :
    has c (dstM (org (p, .ag h) c) (p, .ag h)) fullShare (tile m ρ (org (p, .ag h) c) (p, .ag h)) = mine m ρ c p h.succ fullShare := by
  show has c (slM (xOf (leftZ c)) p (col (leftZ c) h.castSucc)) fullShare (goal m ρ (leftZ c) (xOf (leftZ c)) p (col (leftZ c) h.castSucc)) = _
  rw [xOf_leftZ, col_leftZ, goal_leftZ]

/-- What arrives from the partner is a finished block of the partner's rows. -/
theorem xs_arrived (c : Dev nD) (p k : Fin 4) :
    has c (dstM (org (p, .xs k) c) (p, .xs k)) fullShare (tile m ρ (org (p, .xs k) c) (p, .xs k)) = got m ρ c p k := by
  show has c (slM (xOf (mate c)) p (col (mate c) k)) fullShare (goal m ρ (mate c) (xOf (mate c)) p (col (mate c) k)) = _
  unfold col; rw [xOf_mate, zOf_mate, goal_mate]

/-- A finished block is held in two halves, one per copy of it. -/
theorem mine_halves (c : Dev nD) (p k : Fin 4) : mine m ρ c p k fullShare ⊣⊢ iprop(mine m ρ c p k fullShare.left ∗ mine m ρ c p k fullShare.right) :=
  owns_halves (Val := Elt F) (c : Thread nD τ) (slM (xOf c) p (col c k)) fullShare (goal m ρ c (xOf c) p (col c k))

/-- What is left of hop `s` of the reduction: both slots free again, both semaphores at zero. -/
def doneRs (c : Dev nD) (p : Fin 4) (s : Fin 3) : sProp 𝕄 :=
  iprop(free c (slot sM p s) ∗ free c (slot rM p s) ∗ zero c ((p, .rs s), false) ∗ zero c ((p, .rs s), true))

section Phases
variable {m ρ K} {c : Dev nD} {n n' : ℕ} {A A' B B' : Res F}

/-- A step inside a larger state. -/
theorem Step.within {f : Kern F → Kern F} (R : Res F) (h : Step m ρ K c f n n' A B) (hA : A' ⊢ iprop(A ∗ R)) (hB : iprop(B ∗ R) ⊢ B') :
    Step m ρ K c f n n' A' B' := (h.frame R).conseq hA hB

/-- Sending a slot at the contents it is to carry. -/
theorem step_rsShip (p : Fin 4) (s : Fin 3) :
    Step m ρ K c (rsShip p s (rightY c)) (4 * s.val + p.val) (4 * s.val + p.val + 1)
      iprop(has c (slot sM p s) fullShare (rsT m ρ s c p) ∗ snd c (p, .rs s)) (fly c (p, .rs s)) :=
  step_ship (p, .rs s) _ (drop_rs p s) rfl rfl _ _

/-- The two waits of hop `s`. -/
theorem step_rsAwait (p : Fin 4) (s : Fin 3) (i : ℕ) (hi : ∀ u ∈ sends.drop i, 2 + s.val < rank u) :
    Step m ρ K c (rsAwait p s) i i iprop(fly c (p, .rs s) ∗ rcv c (p, .rs s))
      iprop(has c (slot rM p s) fullShare (rsT m ρ s (leftY c) p)
        ∗ free c (slot sM p s) ∗ zero c ((p, .rs s), false) ∗ zero c ((p, .rs s), true)) := by
  refine Step.seq
    (f := await (sem43 cc0_scratch2 p s) (slot rM p s) (slot sM p s) (slot_exact _ p s) (slot_exact _ p s))
    (g := await (sem43 cc0_scratch3 p s) (slot sM p s) (slot rM p s) (slot_exact _ p s) (slot_exact _ p s))
    ((step_sent (p, .rs s) i (slot rM p s) (dst := slot sM p s) (slot_credit _ p s) (slot_exact _ p s) (slot_exact _ p s)).frame (rcv c (p, .rs s)))
    ((step_arrived (p, .rs s) i hi (slot sM p s) (dst := slot rM p s) (slot_credit _ p s) (slot_exact _ p s) (slot_exact _ p s)).within
      iprop(has c (srcM c (p, .rs s)) (shr (p, .rs s)) (tile m ρ c (p, .rs s)) ∗ zero c ((p, .rs s), false)) ?_ ?_)
  · iintro ⟨⟨H, Hz⟩, Hr⟩
    isplitl [Hr]; · iexact Hr
    isplitl [H]; · iexact H
    iexact Hz
  · iintro ⟨⟨Hr, Hzr⟩, Hs, Hzs⟩
    isplitl [Hr]; · iexact Hr
    isplitl [Hs]; · iapply (free_of_has c (slot sM p s) (tile m ρ c (p, .rs s))); iexact Hs
    isplitl [Hzs]; · iexact Hzs
    iexact Hzr

/-- Storing the partial sum and sending it. -/
theorem step_storeShip (p : Fin 4) (s : Fin 3) (w : FVec F S128x128 .f32) (hw : w = rsT m ρ s c p) :
    Step m ρ K c (fun k => slotStore p s w (rsShip p s (rightY c) k)) (4 * s.val + p.val) (4 * s.val + p.val + 1)
      iprop(free c (slot sM p s) ∗ snd c (p, .rs s)) (fly c (p, .rs s)) := by
  subst hw
  exact Step.seq (f := slotStore p s (rsT m ρ s c p)) (g := rsShip p s (rightY c)) ((step_slotStore p s _).frame (snd c (p, .rs s))) (step_rsShip p s)

/-- The first hop. -/
theorem phase_first (p : Fin 4) :
    Step m ρ K c (rsFirst c p (rightY c)) (4 * (0 : Fin 3).val + p.val) (4 * (0 : Fin 3).val + p.val + 1)
      iprop(free c (slot sM p 0) ∗ snd c (p, .rs 0)) (fly c (p, .rs 0)) :=
  step_load_x (xR c p 0).toLoadRect _ (g := fun v (k : Kern F) => slotStore (F := F) p 0 (xBlk (F := F) v) (rsShip p 0 (rightY c) k))
    (step_storeShip p 0 _ rfl)

/-- The wait for hop `s`, before what is done with the block that arrived. -/
theorem step_afterHop (p : Fin 4) (s : Fin 3) {g : Kern F → Kern F} {i j : ℕ} (hi : ∀ u ∈ sends.drop i, 2 + s.val < rank u)
    (h : Step m ρ K c g i j iprop(has c (slot rM p s) fullShare (rsT m ρ s (leftY c) p) ∗ A)
      iprop(has c (slot rM p s) fullShare (rsT m ρ s (leftY c) p) ∗ B)) :
    Step m ρ K c (fun k => rsAwait p s (g k)) i j iprop(fly c (p, .rs s) ∗ rcv c (p, .rs s) ∗ A) iprop(B ∗ doneRs c p s) := by
  refine Step.seq (f := rsAwait p s) (g := g) ((step_rsAwait p s i hi).within A sep_assoc.2 (Entails.refl _))
    (h.within iprop(free c (slot sM p s) ∗ zero c ((p, .rs s), false) ∗ zero c ((p, .rs s), true)) ?_ ?_)
  · iintro ⟨⟨Hr, Hs, Hz, Hz'⟩, HA⟩
    isplitl [Hr HA]
    · isplitl [Hr] <;> iassumption
    isplitl [Hs]; · iexact Hs
    isplitl [Hz] <;> iassumption
  · unfold doneRs
    iintro ⟨⟨Hr, HB⟩, Hs, Hz, Hz'⟩
    isplitl [HB]; · iexact HB
    isplitl [Hs]; · iexact Hs
    isplitl [Hr]; · iapply (free_of_has c (slot rM p s) (rsT m ρ s (leftY c) p)); iexact Hr
    isplitl [Hz] <;> iassumption

/-- A step that leaves a block alone. -/
theorem Step.beside {f : Kern F → Kern F} (R : Res F) (h : Step m ρ K c f n n' A B) : Step m ρ K c f n n' iprop(R ∗ A) iprop(R ∗ B) :=
  h.within R sep_comm.1 sep_comm.1

/-- A later hop. -/
theorem phase_next (p : Fin 4) (s s' : Fin 3) (hs : s'.val = s.val + 1)
    (hv : addf (rsT m ρ s (leftY c) p) (xT m ρ c p s') = rsT m ρ s' c p) :
    Step m ρ K c (rsNext c p s s' (rightY c)) (4 * s'.val + p.val) (4 * s'.val + p.val + 1)
      iprop(fly c (p, .rs s) ∗ rcv c (p, .rs s) ∗ free c (slot sM p s') ∗ snd c (p, .rs s'))
      iprop(fly c (p, .rs s') ∗ doneRs c p s) := by
  rw [rsNext_eq]
  refine step_afterHop p s (by rw [hs]; exact late_rs p s) ?_
  refine step_load_slot p s _ _ (g := fun v (k : Kern F) => nextX (F := F) c p s' (rightY c) (rBlk (F := F) v) k) fun v hv' => ?_
  rw [hv']
  refine step_load_x (xR c p s').toLoadRect _
    (g := fun w (k : Kern F) => slotStore (F := F) p s' (addf (rsT m ρ s (leftY c) p) (xBlk (F := F) w)) (rsShip p s' (rightY c) k)) ?_
  exact (step_storeShip p s' _ (by rw [← hv]; rfl)).beside _

/-- A block of the result sent around the last axis. -/
theorem step_agShip (p : Fin 4) (h : Fin 3) :
    Step m ρ K c (agShip c p h (rightZ c)) (12 + 8 * h.val + 2 * p.val) (12 + 8 * h.val + 2 * p.val + 1)
      iprop(mine m ρ c p h.castSucc fullShare.left ∗ snd c (p, .ag h)) (fly c (p, .ag h)) :=
  step_ship (p, .ag h) _ (drop_ag p h) (agOut_eq c p h) (agOut_eq c p h) _ _

/-- A block of the result sent to the partner. -/
theorem step_xsShip {M : Memref sig .tc .vmem S128x128 .f32} (p k : Fin 4) (i : ℕ) (hi : sends.drop i = (p, .xs k) :: sends.drop (i + 1))
    (hM : M = slM (xOf c) p (col c k)) (hs hd) :
    Step m ρ K c (ship M M hs hd (mate c) (sem44 cc0_scratch6 p k) (sem44 cc0_scratch7 p k)) i (i + 1)
      iprop(mine m ρ c p k fullShare.right ∗ snd c (p, .xs k)) (fly c (p, .xs k)) :=
  step_ship (p, .xs k) _ hi hM hM _ _

/-- A finished block, sent both ways. -/
theorem step_both {M : Memref sig .tc .vmem S128x128 .f32} (p : Fin 4) (h : Fin 3) (k : Fin 4) (hk : k = h.castSucc)
    (hM : M = slM (xOf c) p (col c k)) (hs hd) :
    Step m ρ K c (fun j => agShip c p h (rightZ c) (ship M M hs hd (mate c) (sem44 cc0_scratch6 p k) (sem44 cc0_scratch7 p k) j))
      (12 + 8 * h.val + 2 * p.val) (12 + 8 * h.val + 2 * p.val + 1 + 1)
      iprop(mine m ρ c p k fullShare ∗ snd c (p, .ag h) ∗ snd c (p, .xs k))
      iprop(fly c (p, .ag h) ∗ fly c (p, .xs k)) := by
  subst hk
  refine Step.seq (f := agShip c p h (rightZ c)) (g := ship M M hs hd (mate c) (sem44 cc0_scratch6 p h.castSucc) (sem44 cc0_scratch7 p h.castSucc))
    ((step_agShip p h).within iprop(mine m ρ c p h.castSucc fullShare.right ∗ snd c (p, .xs h.castSucc)) ?_ (Entails.refl _))
    ((step_xsShip p h.castSucc _ (drop_xs p h) hM hs hd).beside (fly c (p, .ag h)))
  iintro ⟨Hm, Ha, Hx⟩
  ihave Hm := (mine_halves m ρ c p h.castSucc).1 $$ Hm
  icases Hm with ⟨Hl, Hr⟩
  isplitl [Hl Ha]
  · isplitl [Hl] <;> iassumption
  isplitl [Hr] <;> iassumption

/-- The last hop of the reduction: the block is finished, stored and sent both ways. -/
theorem phase_out (p : Fin 4) :
    Step m ρ K c (outStep c p (rightZ c) (mate c)) (12 + 8 * (0 : Fin 3).val + 2 * p.val) (12 + 8 * (0 : Fin 3).val + 2 * p.val + 1 + 1)
      iprop(fly c (p, .rs 2) ∗ rcv c (p, .rs 2) ∗ free c (slM (xOf c) p (col c 0)) ∗ snd c (p, .ag 0) ∗ snd c (p, .xs 0))
      iprop((fly c (p, .ag 0) ∗ fly c (p, .xs 0)) ∗ doneRs c p 2) := by
  rw [outStep_eq]
  refine step_afterHop p 2 (late_out p) ?_
  refine step_load_slot p 2 _ _ (g := fun v (k : Kern F) => outX (F := F) c p (rightZ c) (mate c) (rBlk (F := F) v) k) fun v hv' => ?_
  rw [hv']
  refine step_load_x (xR2 c p).toLoadRect _
    (g := fun w (k : Kern F) => outO (F := F) c p (addf (rsT m ρ 2 (leftY c) p) (xBlk (F := F) w)) (outShip c p (rightZ c) (mate c) k)) ?_
  have hw : addf (rsT m ρ 2 (leftY c) p) (xBlk (xM.view.readAt (Elt F) (xR2 c p).toLoadRect (xv m ρ c))) = goal m ρ c (xOf c) p (col c 0) := by
    rw [goal_own]; rfl
  dsimp only
  rw [hw]
  refine Step.beside _ (Step.seq (f := outO c p (goal m ρ c (xOf c) p (col c 0))) (g := outShip c p (rightZ c) (mate c))
    (B := iprop(mine m ρ c p 0 fullShare ∗ snd c (p, .ag 0) ∗ snd c (p, .xs 0)))
    ((step_outStore p _ _ _ _).frame _) (step_both p 0 0 rfl (ownOut_eq c p) _ _))

/-- The wait for the block of hop `h`. -/
theorem step_agAwait (p : Fin 4) (h : Fin 3) (i : ℕ) (hi : ∀ u ∈ sends.drop i, 5 + h.val < rank u) :
    Step m ρ K c (agAwait c p h) i i (rcv c (p, .ag h)) iprop(mine m ρ c p h.succ fullShare ∗ zero c ((p, .ag h), true)) := by
  rw [← ag_arrived]
  exact step_arrived (p, .ag h) i hi (agIn c p h) (dst := agIn c p h) (outSl_credit _ _) (outSl_exact _ _) (outSl_exact _ _)

/-- A hop around the last axis, not the last. -/
theorem phase_fwd (p : Fin 4) (h h' : Fin 3) (hh : h.succ = h'.castSucc) (hi : ∀ u ∈ sends.drop (12 + 8 * h'.val + 2 * p.val), 5 + h.val < rank u) :
    Step m ρ K c (fwd c p h h' (rightZ c) (mate c)) (12 + 8 * h'.val + 2 * p.val) (12 + 8 * h'.val + 2 * p.val + 1 + 1)
      iprop(rcv c (p, .ag h) ∗ snd c (p, .ag h') ∗ snd c (p, .xs h.succ))
      iprop((fly c (p, .ag h') ∗ fly c (p, .xs h.succ)) ∗ zero c ((p, .ag h), true)) := by
  refine Step.seq (f := agAwait c p h) (g := fun k => agShip c p h' (rightZ c) (xsShip c p h (mate c) k))
    ((step_agAwait p h _ hi).frame iprop(snd c (p, .ag h') ∗ snd c (p, .xs h.succ)))
    ((step_both p h' h.succ hh (agIn_eq c p h) (outSl_exact _ _) (outSl_exact _ _)).within (zero c ((p, .ag h), true)) ?_ (Entails.refl _))
  iintro ⟨⟨Hm, Hz⟩, Hs⟩
  isplitr [Hz]
  · isplitl [Hm] <;> iassumption
  iexact Hz

/-- The last hop around the last axis. -/
theorem phase_fwdLast (p : Fin 4) :
    Step m ρ K c (fwdLast c p (mate c)) (36 + p.val) (36 + p.val + 1) iprop(rcv c (p, .ag 2) ∗ snd c (p, .xs 3))
      iprop(fly c (p, .xs 3) ∗ mine m ρ c p 3 fullShare.left ∗ zero c ((p, .ag 2), true)) := by
  refine Step.seq (f := agAwait c p 2) (g := xsShip c p 2 (mate c))
    (B := iprop((mine m ρ c p 3 fullShare ∗ zero c ((p, .ag 2), true)) ∗ snd c (p, .xs 3)))
    ((step_agAwait p 2 _ (late_ag2 p)).frame (snd c (p, .xs 3)))
    ((step_xsShip p 3 _ (drop_xs3 p) (agIn_eq c p 2) _ _).within iprop(mine m ρ c p 3 fullShare.left ∗ zero c ((p, .ag 2), true)) ?_ (Entails.refl _))
  iintro ⟨⟨Hm, Hz⟩, Hs⟩
  ihave Hm := (mine_halves m ρ c p 3).1 $$ Hm
  icases Hm with ⟨Hl, Hr⟩
  isplitl [Hr Hs]
  · isplitl [Hr] <;> iassumption
  isplitl [Hl] <;> iassumption

/-- What a pair of closing waits leaves. -/
def doneHop (c : Dev nD) (p : Fin 4) (h : Fin 3) : sProp 𝕄 :=
  iprop((got m ρ c p h.succ ∗ zero c ((p, .xs h.succ), true)) ∗ mine m ρ c p h.castSucc fullShare.left ∗ zero c ((p, .ag h), false))

theorem step_xsAwait {M : Memref sig .tc .vmem S128x128 .f32} (p k : Fin 4) (hM : M.view.dmaCredit = N) (hs hd) :
    Step m ρ K c (await (sem44 cc0_scratch7 p k) M M hs hd) 40 40 (rcv c (p, .xs k)) iprop(got m ρ c p k ∗ zero c ((p, .xs k), true)) := by
  rw [← xs_arrived]
  exact step_arrived (p, .xs k) 40 (fun u hu => absurd hu (by rw [show sends.drop 40 = [] from by decide]; exact List.not_mem_nil)) M hM hs hd

/-- A pair of closing waits. -/
theorem step_finHop (p : Fin 4) (h : Fin 3) :
    Step m ρ K c (finHop c p h) 40 40 iprop(rcv c (p, .xs h.succ) ∗ fly c (p, .ag h)) (doneHop (m := m) (ρ := ρ) c p h) := by
  refine Step.seq (f := await (sem44 cc0_scratch7 p h.succ) (xsIn c p h) (xsIn c p h) (outSl_exact _ _) (outSl_exact _ _))
    (g := await (sem43 cc0_scratch4 p h) (agOut c p h) (agOut c p h) (outSl_exact _ _) (outSl_exact _ _))
    ((step_xsAwait (M := xsIn c p h) p h.succ (outSl_credit _ _) (outSl_exact _ _) (outSl_exact _ _)).frame (fly c (p, .ag h)))
    ((step_sent (p, .ag h) 40 (agOut c p h) (dst := agOut c p h) (outSl_credit _ _) (outSl_exact _ _) (outSl_exact _ _)).beside _)

/-- What the closing waits of a lane leave. -/
def doneFin (c : Dev nD) (p : Fin 4) : sProp 𝕄 :=
  iprop(doneHop (m := m) (ρ := ρ) c p 0 ∗ doneHop (m := m) (ρ := ρ) c p 1 ∗ doneHop (m := m) (ρ := ρ) c p 2
    ∗ got m ρ c p 0 ∗ zero c ((p, .xs 0), true))

/-- The closing waits of a lane. -/
theorem phase_fin (p : Fin 4) :
    Step m ρ K c (fin c p) 40 40
      iprop((rcv c (p, .xs 1) ∗ fly c (p, .ag 0)) ∗ (rcv c (p, .xs 2) ∗ fly c (p, .ag 1)) ∗ (rcv c (p, .xs 3) ∗ fly c (p, .ag 2)) ∗ rcv c (p, .xs 0))
      (doneFin (m := m) (ρ := ρ) c p) :=
  Step.seq (f := finHop c p 0) (g := fun k => finHop c p 1 <| finHop c p 2 <|
      await (sem44 cc0_scratch7 p 0) (xsIn0 c p) (xsIn0 c p) (outSl_exact _ _) (outSl_exact _ _) k)
    ((step_finHop p 0).frame _) <| Step.beside _ <|
  Step.seq (f := finHop c p 1) (g := fun k => finHop c p 2 <|
      await (sem44 cc0_scratch7 p 0) (xsIn0 c p) (xsIn0 c p) (outSl_exact _ _) (outSl_exact _ _) k)
    ((step_finHop p 1).frame _) <| Step.beside _ <|
  Step.seq (f := finHop c p 2) (g := await (sem44 cc0_scratch7 p 0) (xsIn0 c p) (xsIn0 c p) (outSl_exact _ _) (outSl_exact _ _))
    ((step_finHop p 2).frame _) <| Step.beside _ <| step_xsAwait (M := xsIn0 c p) p 0 (outSl_credit _ _) (outSl_exact _ _) (outSl_exact _ _)

/-- The wait for the send of block `k` to the partner. -/
theorem step_shipped {M : Memref sig .tc .vmem S128x128 .f32} (p k : Fin 4) (hM : M.view.dmaCredit = N) (hs hd) :
    Step m ρ K c (await (sem44 cc0_scratch6 p k) M M hs hd) 40 40 (fly c (p, .xs k)) iprop(mine m ρ c p k fullShare.right ∗ zero c ((p, .xs k), false)) :=
  step_sent (p, .xs k) 40 M hM hs hd

end Phases

end Cert.KernelIdeal.RingSum

end

end
-- ==== Proof.Whole.lean ====
module

public import proofs.«01_k».proof.Proof.Lanes

/-!
# The phases together

The body after the barrier, from what the barrier leaves a device to what the device ends with.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : CI → ℕ)

section Threads
variable {m ρ K} {c : Dev nD} {n n' a b : ℕ} {A B D E R X X' Y : Res F} {f : Kern F → Kern F}

theorem Step.at (h : Step m ρ K c f n n' A B) (ha : a = n) (hb : b = n') : Step m ρ K c f a b A B := by subst ha hb; exact h

/-- A phase in the state of its lane: what is on its way (`X`), what is yet to be used (`A`, `R`), what is done (`E`). -/
theorem Step.thread (R E : Res F) (h : Step m ρ K c f n n' iprop(X ∗ A) iprop(Y ∗ D)) :
    Step m ρ K c f n n' iprop(X ∗ (A ∗ R) ∗ E) iprop(Y ∗ R ∗ D ∗ E) := by
  refine h.within iprop(R ∗ E) ?_ ?_
  · iintro ⟨HX, ⟨HA, HR⟩, HE⟩
    isplitl [HX HA]
    · isplitl [HX] <;> iassumption
    isplitl [HR] <;> iassumption
  · iintro ⟨⟨HY, HD⟩, HR, HE⟩
    isplitl [HY]; · iexact HY
    isplitl [HR]; · iexact HR
    isplitl [HD] <;> iassumption

/-- A phase that leaves what is on its way, and adds to it. -/
theorem Step.more (X : Res F) (h : Step m ρ K c f n n' A iprop(Y ∗ D)) : Step m ρ K c f n n' iprop(X ∗ A) iprop((X ∗ Y) ∗ D) :=
  h.within X sep_comm.1 (by
    iintro ⟨⟨HY, HD⟩, HX⟩
    isplitr [HD]
    · isplitl [HX] <;> iassumption
    iexact HD)

/-- A phase that ends the first of what is on its way. -/
theorem Step.done (X' E : Res F) (h : Step m ρ K c f n n' X D) : Step m ρ K c f n n' iprop((X ∗ X') ∗ E) iprop(X' ∗ D ∗ E) :=
  h.within iprop(X' ∗ E) sep_assoc.1 (by
    iintro ⟨HD, HX, HE⟩
    isplitl [HX]; · iexact HX
    isplitl [HD] <;> iassumption)

end Threads

omit [FloatOps F] in
/-- Weakening each of many assertions. -/
theorem bigSep_each {I : Type} [Fintype I] [DecidableEq I] {Φ Ψ : I → Res F} (h : ∀ i, Φ i ⊢ Ψ i) :
    bigSep Finset.univ Φ ⊢ bigSep Finset.univ Ψ := bigSep_mono fun i _ => h i

/-! ## What the phases take -/

section
variable (c : Dev nD) (p : Fin 4)
def use1 : Res F := iprop(free c (slot sM p 0) ∗ snd c (p, .rs 0))
def use2 (s s' : Fin 3) : Res F := iprop(rcv c (p, .rs s) ∗ free c (slot sM p s') ∗ snd c (p, .rs s'))
def use4 : Res F := iprop(rcv c (p, .rs 2) ∗ free c (slM (xOf c) p (col c 0)) ∗ snd c (p, .ag 0) ∗ snd c (p, .xs 0))
def use5 (h h' : Fin 3) : Res F := iprop(rcv c (p, .ag h) ∗ snd c (p, .ag h') ∗ snd c (p, .xs h.succ))
def use7 : Res F := iprop(rcv c (p, .ag 2) ∗ snd c (p, .xs 3))
def use8 : Res F := iprop(rcv c (p, .xs 0) ∗ rcv c (p, .xs 1) ∗ rcv c (p, .xs 2) ∗ rcv c (p, .xs 3))
def both (h : Fin 3) (k : Fin 4) : Res F := iprop(fly c (p, .ag h) ∗ fly c (p, .xs k))
def ships : Res F := iprop(fly c (p, .xs 0) ∗ fly c (p, .xs 1) ∗ fly c (p, .xs 2) ∗ fly c (p, .xs 3))
def own3 : Res F := iprop(mine m ρ c p 3 fullShare.left ∗ zero c ((p, .ag 2), true))
def shipped (k : Fin 4) : Res F := iprop(mine m ρ c p k fullShare.right ∗ zero c ((p, .xs k), false))

/-- What a lane still has to use, phase by phase. -/
def rest7 : Res F := use8 c p
def rest6 : Res F := iprop(use7 c p ∗ rest7 c p)
def rest5 : Res F := iprop(use5 c p 1 2 ∗ rest6 c p)
def rest4 : Res F := iprop(use5 c p 0 1 ∗ rest5 c p)
def rest3 : Res F := iprop(use4 c p ∗ rest4 c p)
def rest2 : Res F := iprop(use2 c p 1 2 ∗ rest3 c p)
def rest1 : Res F := iprop(use2 c p 0 1 ∗ rest2 c p)
/-- What a lane has done, phase by phase. -/
def done2 : Res F := iprop(doneRs c p 0 ∗ emp)
def done3 : Res F := iprop(doneRs c p 1 ∗ done2 c p)
def done4 : Res F := iprop(doneRs c p 2 ∗ done3 c p)
def done5 : Res F := iprop(zero c ((p, .ag 0), true) ∗ done4 c p)
def done6 : Res F := iprop(zero c ((p, .ag 1), true) ∗ done5 c p)
def done7 : Res F := iprop(own3 m ρ c p ∗ done6 c p)
def done8 : Res F := iprop(doneFin (m := m) (ρ := ρ) c p ∗ done7 m ρ c p)
def done9 : Res F := iprop(shipped m ρ c p 0 ∗ done8 m ρ c p)
def done10 : Res F := iprop(shipped m ρ c p 1 ∗ done9 m ρ c p)
def done11 : Res F := iprop(shipped m ρ c p 2 ∗ done10 m ρ c p)
def done12 : Res F := iprop(shipped m ρ c p 3 ∗ done11 m ρ c p)
end

/-- A semaphore's wait with all copies made. -/
theorem lanes_idle {c : Dev nD} {f : Fin 4 → Kern F → Kern F} {A B : Fin 4 → Res F} (h : ∀ p, Step m ρ K c (f p) 40 40 (A p) (B p)) :
    Step m ρ K c (lanes f) 40 40 (bigSep Finset.univ A) (bigSep Finset.univ B) :=
  Step.lanes 40 0 40 (fun p => (h p).at (by omega) (by omega)) (by omega)

section Lanewise
variable {m ρ K}
variable {c : Dev nD}

theorem all1 : Step m ρ K c (lanes fun p => rsFirst c p (rightY c)) 0 4 (bigSep Finset.univ fun p => iprop(use1 c p ∗ rest1 c p))
    (bigSep Finset.univ fun p => iprop(fly c (p, .rs 0) ∗ rest1 c p ∗ emp)) :=
  Step.lanes 0 1 4 (fun p => ((phase_first p).within (rest1 c p) (Entails.refl _) (sep_mono_right Laws.sep_emp.2)).at (by simp) (by simp; try omega)) rfl

theorem all2 : Step m ρ K c (lanes fun p => rsNext c p 0 1 (rightY c)) 4 8 (bigSep Finset.univ fun p => iprop(fly c (p, .rs 0) ∗ rest1 c p ∗ emp))
    (bigSep Finset.univ fun p => iprop(fly c (p, .rs 1) ∗ rest2 c p ∗ done2 c p)) :=
  Step.lanes 4 1 8 (fun p => (Step.thread (rest2 c p) iprop(emp) (A := use2 c p 0 1) (phase_next p 0 1 rfl rfl)).at (by simp) (by simp; try omega)) rfl

theorem all3 : Step m ρ K c (lanes fun p => rsNext c p 1 2 (rightY c)) 8 12 (bigSep Finset.univ fun p => iprop(fly c (p, .rs 1) ∗ rest2 c p ∗ done2 c p))
    (bigSep Finset.univ fun p => iprop(fly c (p, .rs 2) ∗ rest3 c p ∗ done3 c p)) :=
  Step.lanes 8 1 12 (fun p => (Step.thread (rest3 c p) (done2 c p) (A := use2 c p 1 2) (phase_next p 1 2 rfl rfl)).at (by simp) (by simp; try omega)) rfl

theorem all4 : Step m ρ K c (lanes fun p => outStep c p (rightZ c) (mate c)) 12 20 (bigSep Finset.univ fun p => iprop(fly c (p, .rs 2) ∗ rest3 c p ∗ done3 c p))
    (bigSep Finset.univ fun p => iprop(both c p 0 0 ∗ rest4 c p ∗ done4 c p)) :=
  Step.lanes 12 2 20 (fun p => (Step.thread (rest4 c p) (done3 c p) (A := use4 c p) (Y := both c p 0 0) (phase_out p)).at (by simp) (by simp; try omega)) rfl

theorem all5 : Step m ρ K c (lanes fun p => fwd c p 0 1 (rightZ c) (mate c)) 20 28 (bigSep Finset.univ fun p => iprop(both c p 0 0 ∗ rest4 c p ∗ done4 c p))
    (bigSep Finset.univ fun p => iprop((both c p 0 0 ∗ both c p 1 1) ∗ rest5 c p ∗ done5 c p)) :=
  Step.lanes 20 2 28 (fun p => (Step.thread (rest5 c p) (done4 c p) (A := use5 c p 0 1)
    (Step.more (both c p 0 0) (Y := both c p 1 1) (phase_fwd p 0 1 rfl (late_ag p 0)))).at (by simp) (by simp; try omega)) rfl

theorem all6 : Step m ρ K c (lanes fun p => fwd c p 1 2 (rightZ c) (mate c)) 28 36 (bigSep Finset.univ fun p => iprop((both c p 0 0 ∗ both c p 1 1) ∗ rest5 c p ∗ done5 c p))
    (bigSep Finset.univ fun p => iprop(((both c p 0 0 ∗ both c p 1 1) ∗ both c p 2 2) ∗ rest6 c p ∗ done6 c p)) :=
  Step.lanes 28 2 36 (fun p => (Step.thread (rest6 c p) (done5 c p) (A := use5 c p 1 2)
    (Step.more iprop(both c p 0 0 ∗ both c p 1 1) (Y := both c p 2 2) (phase_fwd p 1 2 rfl (late_ag p 1)))).at (by simp) (by simp; try omega)) rfl

theorem all7 : Step m ρ K c (lanes fun p => fwdLast c p (mate c)) 36 40
    (bigSep Finset.univ fun p => iprop(((both c p 0 0 ∗ both c p 1 1) ∗ both c p 2 2) ∗ rest6 c p ∗ done6 c p))
    (bigSep Finset.univ fun p => iprop((((both c p 0 0 ∗ both c p 1 1) ∗ both c p 2 2) ∗ fly c (p, .xs 3)) ∗ rest7 c p ∗ done7 m ρ c p)) :=
  Step.lanes 36 1 40 (fun p => (Step.thread (rest7 c p) (done6 c p) (A := use7 c p) (D := own3 m ρ c p)
    (Step.more iprop((both c p 0 0 ∗ both c p 1 1) ∗ both c p 2 2) (phase_fwdLast p))).at (by simp) (by simp; try omega)) rfl

theorem all8 : Step m ρ K c (lanes fun p => fin c p) 40 40
    (bigSep Finset.univ fun p => iprop((((both c p 0 0 ∗ both c p 1 1) ∗ both c p 2 2) ∗ fly c (p, .xs 3)) ∗ rest7 c p ∗ done7 m ρ c p))
    (bigSep Finset.univ fun p => iprop(ships c p ∗ done8 m ρ c p)) :=
  lanes_idle m ρ K fun p => by
    refine (phase_fin p).within iprop(ships c p ∗ done7 m ρ c p) ?_ ?_
    · unfold both rest7 use8 ships
      iintro ⟨⟨⟨⟨⟨Ha0, Hx0⟩, Ha1, Hx1⟩, Ha2, Hx2⟩, Hx3⟩, ⟨H0, H1, H2, H3⟩, HE⟩
      isplitl [Ha0 Ha1 Ha2 H0 H1 H2 H3]
      · isplitl [Ha0 H1]
        · isplitl [H1] <;> iassumption
        isplitl [Ha1 H2]
        · isplitl [H2] <;> iassumption
        isplitl [Ha2 H3]
        · isplitl [H3] <;> iassumption
        iexact H0
      isplitl [Hx0 Hx1 Hx2 Hx3]
      · isplitl [Hx0]; · iexact Hx0
        isplitl [Hx1]; · iexact Hx1
        isplitl [Hx2] <;> iassumption
      iexact HE
    · unfold done8
      iintro ⟨HD, HS, HE⟩
      isplitl [HS]; · iexact HS
      isplitl [HD] <;> iassumption

theorem all9 : Step m ρ K c (lanes fun p => shipAwait0 c p) 40 40 (bigSep Finset.univ fun p => iprop(ships c p ∗ done8 m ρ c p))
    (bigSep Finset.univ fun p => iprop((fly c (p, .xs 1) ∗ fly c (p, .xs 2) ∗ fly c (p, .xs 3)) ∗ done9 m ρ c p)) :=
  lanes_idle m ρ K fun p => Step.done _ _ (D := shipped m ρ c p 0)
    (step_shipped (M := ownOut c p) p 0 (outSl_credit _ _) (outSl_exact _ _) (outSl_exact _ _))

theorem all10 : Step m ρ K c (lanes fun p => shipAwait c 0 p) 40 40
    (bigSep Finset.univ fun p => iprop((fly c (p, .xs 1) ∗ fly c (p, .xs 2) ∗ fly c (p, .xs 3)) ∗ done9 m ρ c p))
    (bigSep Finset.univ fun p => iprop((fly c (p, .xs 2) ∗ fly c (p, .xs 3)) ∗ done10 m ρ c p)) :=
  lanes_idle m ρ K fun p => Step.done _ _ (D := shipped m ρ c p 1)
    (step_shipped (M := agIn c p 0) p 1 (outSl_credit _ _) (outSl_exact _ _) (outSl_exact _ _))

theorem all11 : Step m ρ K c (lanes fun p => shipAwait c 1 p) 40 40
    (bigSep Finset.univ fun p => iprop((fly c (p, .xs 2) ∗ fly c (p, .xs 3)) ∗ done10 m ρ c p))
    (bigSep Finset.univ fun p => iprop(fly c (p, .xs 3) ∗ done11 m ρ c p)) :=
  lanes_idle m ρ K fun p => Step.done _ _ (D := shipped m ρ c p 2)
    (step_shipped (M := agIn c p 1) p 2 (outSl_credit _ _) (outSl_exact _ _) (outSl_exact _ _))

theorem all12 : Step m ρ K c (lanes fun p => shipAwait c 2 p) 40 40
    (bigSep Finset.univ fun p => iprop(fly c (p, .xs 3) ∗ done11 m ρ c p)) (bigSep Finset.univ fun p => done12 m ρ c p) :=
  lanes_idle m ρ K fun p => Step.frame (B := shipped m ρ c p 3) _
    (step_shipped (M := agIn c p 2) p 3 (outSl_credit _ _) (outSl_exact _ _) (outSl_exact _ _))

/-- The body after the barrier, phase after phase. -/
theorem steps_run (Q : PUnit → sProp 𝕄) :
    iprop(Env m ρ K c 0 ∗ (bigSep Finset.univ fun p => iprop(use1 c p ∗ rest1 c p))
        ∗ (((bigSep Finset.univ fun p => done12 m ρ c p) ∗ Env m ρ K c 40) -∗ Q ⟨⟩))
      ⊢ runs c (steps c) Q := by
  unfold steps
  iintro ⟨HE, HS, Hk⟩
  iapply (all1.run _ Q); isplitl [HE]; · iexact HE
  isplitl [HS]; · iexact HS
  iintro ⟨HS, HE⟩
  iapply (all2.run _ Q); isplitl [HE]; · iexact HE
  isplitl [HS]; · iexact HS
  iintro ⟨HS, HE⟩
  iapply (all3.run _ Q); isplitl [HE]; · iexact HE
  isplitl [HS]; · iexact HS
  iintro ⟨HS, HE⟩
  iapply (all4.run _ Q); isplitl [HE]; · iexact HE
  isplitl [HS]; · iexact HS
  iintro ⟨HS, HE⟩
  iapply (all5.run _ Q); isplitl [HE]; · iexact HE
  isplitl [HS]; · iexact HS
  iintro ⟨HS, HE⟩
  iapply (all6.run _ Q); isplitl [HE]; · iexact HE
  isplitl [HS]; · iexact HS
  iintro ⟨HS, HE⟩
  iapply (all7.run _ Q); isplitl [HE]; · iexact HE
  isplitl [HS]; · iexact HS
  iintro ⟨HS, HE⟩
  iapply (all8.run _ Q); isplitl [HE]; · iexact HE
  isplitl [HS]; · iexact HS
  iintro ⟨HS, HE⟩
  iapply (all9.run _ Q); isplitl [HE]; · iexact HE
  isplitl [HS]; · iexact HS
  iintro ⟨HS, HE⟩
  iapply (all10.run _ Q); isplitl [HE]; · iexact HE
  isplitl [HS]; · iexact HS
  iintro ⟨HS, HE⟩
  iapply (all11.run _ Q); isplitl [HE]; · iexact HE
  isplitl [HS]; · iexact HS
  iintro ⟨HS, HE⟩
  iapply (all12.run _ Q); isplitl [HE]; · iexact HE
  isplitl [HS]; · iexact HS
  iintro ⟨HS, HE⟩
  unfold runs
  rw [wp_ret]; imodintro
  iapply Hk
  isplitl [HS] <;> iassumption

end Lanewise

/-! ## What a lane starts and ends with, copy by copy -/

omit [FloatOps F] in
/-- The copies of a lane, one by one. -/
theorem bigSep_kds (Φ : Kd → sProp 𝕄) : bigSep Finset.univ Φ = iprop(Φ (.rs 0) ∗ Φ (.rs 1) ∗ Φ (.rs 2) ∗ Φ (.ag 0) ∗ Φ (.ag 1) ∗ Φ (.ag 2)
    ∗ Φ (.xs 0) ∗ Φ (.xs 1) ∗ Φ (.xs 2) ∗ Φ (.xs 3)) := by
  rw [bigSep_univ_eq_bigSepL kds (by decide) (by decide)]
  simp only [bigSepL_cons_cons, bigSepL_singleton]
  rfl

omit [FloatOps F] in
/-- Three slots, one by one. -/
theorem bigSep_three (Φ : Fin 3 → sProp 𝕄) : bigSep Finset.univ Φ = iprop(Φ 0 ∗ Φ 1 ∗ Φ 2) := by
  rw [bigSep_univ_eq_bigSepL [0, 1, 2] (by decide) (by decide)]
  simp only [bigSepL_cons_cons, bigSepL_singleton]
  rfl

section
variable (c : Dev nD) (p : Fin 4)

/-- What a lane starts with. -/
def laneStart : Res F :=
  iprop((bigSep Finset.univ fun k : Kd => snd c (p, k)) ∗ (bigSep Finset.univ fun k : Kd => rcv c (p, k))
    ∗ (bigSep Finset.univ fun s : Fin 3 => free c (slot sM p s)) ∗ free c (slM (xOf c) p (col c 0)))

/-- What a lane ends with: its semaphores at zero, its slots free, its part of the result finished. -/
def laneEnd : Res F :=
  iprop((bigSep Finset.univ fun k : Kd => iprop(zero c ((p, k), false) ∗ zero c ((p, k), true)))
    ∗ (bigSep Finset.univ fun s : Fin 3 => iprop(free c (slot sM p s) ∗ free c (slot rM p s)))
    ∗ (bigSep Finset.univ fun k : Fin 4 => iprop(mine m ρ c p k fullShare ∗ got m ρ c p k)))

theorem laneStart_use : laneStart (F := F) c p ⊢ iprop(use1 c p ∗ rest1 c p) := by
  unfold laneStart
  rw [bigSep_kds, bigSep_kds, bigSep_three]
  unfold rest1 rest2 rest3 rest4 rest5 rest6 rest7 use1 use2 use4 use5 use7 use8
  iintro ⟨⟨S0, S1, S2, A0, A1, A2, X0, X1, X2, X3⟩, ⟨R0, R1, R2, B0, B1, B2, Y0, Y1, Y2, Y3⟩, ⟨F0, F1, F2⟩, O⟩
  isplitl [F0 S0]
  · isplitl [F0] <;> iassumption
  isplitl [R0 F1 S1]
  · isplitl [R0]; · iexact R0
    isplitl [F1] <;> iassumption
  isplitl [R1 F2 S2]
  · isplitl [R1]; · iexact R1
    isplitl [F2] <;> iassumption
  isplitl [R2 O A0 X0]
  · isplitl [R2]; · iexact R2
    isplitl [O]; · iexact O
    isplitl [A0] <;> iassumption
  isplitl [B0 A1 X1]
  · isplitl [B0]; · iexact B0
    isplitl [A1]; · iexact A1
    iexact X1
  isplitl [B1 A2 X2]
  · isplitl [B1]; · iexact B1
    isplitl [A2]; · iexact A2
    iexact X2
  isplitl [B2 X3]
  · isplitl [B2] <;> iassumption
  isplitl [Y0]; · iexact Y0
  isplitl [Y1]; · iexact Y1
  isplitl [Y2] <;> iassumption

theorem laneEnd_done : done12 m ρ c p ⊢ laneEnd m ρ c p := by
  unfold laneEnd
  rw [bigSep_kds, bigSep_three, bigSep_four]
  unfold done12 done11 done10 done9 done8 done7 done6 done5 done4 done3 done2 shipped doneFin doneHop own3 doneRs
  iintro ⟨⟨R3, Zx3⟩, ⟨R2, Zx2⟩, ⟨R1, Zx1⟩, ⟨R0, Zx0⟩, ⟨⟨⟨G1, Wx1⟩, L0, Za0⟩, ⟨⟨G2, Wx2⟩, L1, Za1⟩, ⟨⟨G3, Wx3⟩, L2, Za2⟩, G0, Wx0⟩, ⟨L3, Wa2⟩, Wa1, Wa0,
    ⟨S2, T2, Zs2, Ws2⟩, ⟨S1, T1, Zs1, Ws1⟩, ⟨S0, T0, Zs0, Ws0⟩, -⟩
  isplitl [Zx3 Zx2 Zx1 Zx0 Wx1 Za0 Wx2 Za1 Wx3 Za2 Wx0 Wa2 Wa1 Wa0 Zs2 Ws2 Zs1 Ws1 Zs0 Ws0]
  · isplitl [Zs0 Ws0]; · (isplitl [Zs0] <;> iassumption)
    isplitl [Zs1 Ws1]; · (isplitl [Zs1] <;> iassumption)
    isplitl [Zs2 Ws2]; · (isplitl [Zs2] <;> iassumption)
    isplitl [Za0 Wa0]; · (isplitl [Za0] <;> iassumption)
    isplitl [Za1 Wa1]; · (isplitl [Za1] <;> iassumption)
    isplitl [Za2 Wa2]; · (isplitl [Za2] <;> iassumption)
    isplitl [Zx0 Wx0]; · (isplitl [Zx0] <;> iassumption)
    isplitl [Zx1 Wx1]
    · isplitl [Zx1]; · iexact Zx1
      iexact Wx1
    isplitl [Zx2 Wx2]
    · isplitl [Zx2]; · iexact Zx2
      iexact Wx2
    isplitl [Zx3]; · iexact Zx3
    iexact Wx3
  isplitl [S0 T0 S1 T1 S2 T2]
  · isplitl [S0 T0]; · (isplitl [S0] <;> iassumption)
    isplitl [S1 T1]; · (isplitl [S1] <;> iassumption)
    isplitl [S2] <;> iassumption
  isplitl [L0 R0 G0]
  · isplitl [L0 R0]
    · iapply (mine_halves m ρ c p 0).2
      isplitl [L0]; · iexact L0
      iexact R0
    iexact G0
  isplitl [L1 R1 G1]
  · isplitl [L1 R1]
    · iapply (mine_halves m ρ c p 1).2
      isplitl [L1]; · iexact L1
      iexact R1
    iexact G1
  isplitl [L2 R2 G2]
  · isplitl [L2 R2]
    · iapply (mine_halves m ρ c p 2).2
      isplitl [L2]; · iexact L2
      iexact R2
    iexact G2
  isplitl [L3 R3]
  · iapply (mine_halves m ρ c p 3).2; (isplitl [L3] <;> iassumption)
  iexact G3

end

/-- The body after the barrier, from what the lanes start with to what they end with. -/
theorem steps_spec (c : Dev nD) (Q : PUnit → sProp 𝕄) :
    iprop(Env m ρ K c 0 ∗ (bigSep Finset.univ fun p => laneStart c p)
        ∗ (((bigSep Finset.univ fun p => laneEnd m ρ c p) ∗ Env m ρ K c 40) -∗ Q ⟨⟩))
      ⊢ runs c (steps c) Q := by
  iintro ⟨HE, HS, Hk⟩
  iapply (steps_run (m := m) (ρ := ρ) (K := K) (c := c) Q)
  isplitl [HE]; · iexact HE
  isplitl [HS]; · iapply (bigSep_each fun p => laneStart_use (F := F) c p); iexact HS
  iintro ⟨HS, HE⟩
  iapply Hk
  isplitl [HS]; · iapply (bigSep_each fun p => laneEnd_done m ρ c p); iexact HS
  iexact HE

end Cert.KernelIdeal.RingSum

end

end
-- ==== Proof.Blocks.lean ====
module

public import proofs.«01_k».proof.Proof.Whole
public import Idealize.ShloMosaic.Lib.Ring

/-!
# Whole buffers as blocks

The two buffers of partial sums are twelve slots each, the staged result is thirty-two blocks; each buffer is
split into its blocks and joined back.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Slots -/

/-- The elements of slot `(p, s)`. -/
abbrev slotK (ps : Fin 4 × Fin 3) : Finset S4x3x128x128.Idx := (slotR ps.1 ps.2).set

theorem mem_slotK (ps : Fin 4 × Fin 3) (i : S4x3x128x128.Idx) : i ∈ slotK ps ↔ (i 0).val = ps.1.val ∧ (i 1).val = ps.2.val := by
  have h2 : (i 2).val < 128 := (i 2).isLt
  have h3 : (i 3).val < 128 := (i 3).isLt
  rw [Rect.mem_set_unit]
  constructor
  · intro h
    have a0 : ps.1.val ≤ (i 0).val ∧ (i 0).val < ps.1.val + 1 := h 0
    have a1 : ps.2.val ≤ (i 1).val ∧ (i 1).val < ps.2.val + 1 := h 1
    omega
  · rintro ⟨e0, e1⟩ a
    match a with
    | 0 => show ps.1.val ≤ (i 0).val ∧ (i 0).val < ps.1.val + 1; omega
    | 1 => show ps.2.val ≤ (i 1).val ∧ (i 1).val < ps.2.val + 1; omega
    | 2 => show 0 ≤ (i 2).val ∧ (i 2).val < 0 + 128; omega
    | 3 => show 0 ≤ (i 3).val ∧ (i 3).val < 0 + 128; omega

/-- Distinct slots share no element. -/
theorem slotK_disjoint (a b : Fin 4 × Fin 3) (h : a ≠ b) : Disjoint (slotK a) (slotK b) := by
  refine Finset.disjoint_left.mpr fun i ha hb => h ?_
  rw [mem_slotK] at ha hb
  exact Prod.ext (Fin.ext (ha.1.symm.trans hb.1)) (Fin.ext (ha.2.symm.trans hb.2))

/-- Every element is in some slot. -/
theorem slotK_cover : Finset.univ.biUnion slotK = Finset.univ :=
  Finset.eq_univ_of_forall fun i => Finset.mem_biUnion.mpr
    ⟨(⟨(i 0).val, (i 0).isLt⟩, ⟨(i 1).val, (i 1).isLt⟩), Finset.mem_univ _, (mem_slotK _ i).mpr ⟨rfl, rfl⟩⟩

omit [FloatOps F] in
theorem free_sM (p : Fin 4) (s : Fin 3) :
    (free c (slot sM p s) : sProp 𝕄) = iprop(∃ f : Buf (Elt F) ((c : Thread nD τ).loc cc0_scratch0), ((c : Thread nD τ).loc cc0_scratch0) ↦[slotK (p, s)]{fullShare} f) := by
  have h : (slot sM p s).view.set = slotK (p, s) := (slot_set sM p s).trans (View.set_slice_whole cc0_scratch0 (slotR p s))
  unfold free; rw [h]; rfl
omit [FloatOps F] in
theorem free_rM (p : Fin 4) (s : Fin 3) :
    (free c (slot rM p s) : sProp 𝕄) = iprop(∃ f : Buf (Elt F) ((c : Thread nD τ).loc cc0_scratch1), ((c : Thread nD τ).loc cc0_scratch1) ↦[slotK (p, s)]{fullShare} f) := by
  have h : (slot rM p s).view.set = slotK (p, s) := (slot_set rM p s).trans (View.set_slice_whole cc0_scratch1 (slotR p s))
  unfold free; rw [h]; rfl

/-- All slots of the buffer the partial sums are sent from. -/
def slotsS : sProp 𝕄 := bigSep Finset.univ fun p : Fin 4 => bigSep Finset.univ fun s : Fin 3 => free c (slot sM p s)
/-- All slots of the buffer the partial sums arrive in. -/
def slotsR : sProp 𝕄 := bigSep Finset.univ fun p : Fin 4 => bigSep Finset.univ fun s : Fin 3 => free c (slot rM p s)

omit [FloatOps F] in
theorem slotsS_split (f) : (((c : Thread nD τ).loc cc0_scratch0) ↦{fullShare} f) ⊢ (slotsS c : sProp 𝕄) := by
  unfold slotsS
  rw [← bigSep_univ_prod (fun ps : Fin 4 × Fin 3 => (free c (slot sM ps.1 ps.2) : sProp 𝕄)), Ring.pointsTo_blocks slotK slotK_disjoint slotK_cover f]
  exact bigSep_each fun ps => by rw [free_sM]; iintro H; iexists f; iexact H
omit [FloatOps F] in
theorem slotsR_split (f) : (((c : Thread nD τ).loc cc0_scratch1) ↦{fullShare} f) ⊢ (slotsR c : sProp 𝕄) := by
  unfold slotsR
  rw [← bigSep_univ_prod (fun ps : Fin 4 × Fin 3 => (free c (slot rM ps.1 ps.2) : sProp 𝕄)), Ring.pointsTo_blocks slotK slotK_disjoint slotK_cover f]
  exact bigSep_each fun ps => by rw [free_rM]; iintro H; iexists f; iexact H

omit [FloatOps F] in
theorem slotsS_join (f₀ : Buf (Elt F) ((c : Thread nD τ).loc cc0_scratch0)) : slotsS c ⊢ (iprop(∃ f, ((c : Thread nD τ).loc cc0_scratch0) ↦{fullShare} f) : sProp 𝕄) := by
  unfold slotsS
  rw [← bigSep_univ_prod (fun ps : Fin 4 × Fin 3 => (free c (slot sM ps.1 ps.2) : sProp 𝕄))]
  rw [bigSep_congr fun (ps : Fin 4 × Fin 3) _ => free_sM (F := F) c ps.1 ps.2]
  exact Ring.pointsTo_blocks_join_exists (ℓ := (c : Thread nD τ).loc cc0_scratch0) slotK slotK_disjoint slotK_cover f₀
omit [FloatOps F] in
theorem slotsR_join (f₀ : Buf (Elt F) ((c : Thread nD τ).loc cc0_scratch1)) : slotsR c ⊢ (iprop(∃ f, ((c : Thread nD τ).loc cc0_scratch1) ↦{fullShare} f) : sProp 𝕄) := by
  unfold slotsR
  rw [← bigSep_univ_prod (fun ps : Fin 4 × Fin 3 => (free c (slot rM ps.1 ps.2) : sProp 𝕄))]
  rw [bigSep_congr fun (ps : Fin 4 × Fin 3) _ => free_rM (F := F) c ps.1 ps.2]
  exact Ring.pointsTo_blocks_join_exists (ℓ := (c : Thread nD τ).loc cc0_scratch1) slotK slotK_disjoint slotK_cover f₀

/-! ## Blocks of the result -/

/-- The elements of block `(x, p, z)` of the result. -/
abbrev blkK (b : Fin 2 × Fin 4 × Fin 4) : Finset S1024x512.Idx := (slM b.1 b.2.1 b.2.2).view.set

theorem mem_blkK (b : Fin 2 × Fin 4 × Fin 4) (i : S1024x512.Idx) :
    i ∈ blkK b ↔ (i 0).val / 512 = b.1.val ∧ (i 0).val % 512 / 128 = b.2.1.val ∧ (i 1).val / 128 = b.2.2.val := by
  have h : blkK b = (Rect.unit (s := S1024x512) ![512 * (b.1 : ℕ) + 128 * (b.2.1 : ℕ), 128 * (b.2.2 : ℕ)] S128x128.size (sl_inb b.1 b.2.1 b.2.2)).set :=
    View.set_slice_whole cc0_stg1_0 _
  obtain ⟨x, p, z⟩ := b
  have hp := p.isLt
  rw [h, Rect.mem_set_unit]
  constructor
  · intro h
    have a0 : 512 * x.val + 128 * p.val ≤ (i 0).val ∧ (i 0).val < 512 * x.val + 128 * p.val + 128 := h 0
    have a1 : 128 * z.val ≤ (i 1).val ∧ (i 1).val < 128 * z.val + 128 := h 1
    show (i 0).val / 512 = x.val ∧ (i 0).val % 512 / 128 = p.val ∧ (i 1).val / 128 = z.val
    omega
  · rintro ⟨e0, e1, e2⟩ a
    replace e0 : (i 0).val / 512 = x.val := e0
    replace e1 : (i 0).val % 512 / 128 = p.val := e1
    replace e2 : (i 1).val / 128 = z.val := e2
    match a with
    | 0 => show 512 * x.val + 128 * p.val ≤ (i 0).val ∧ (i 0).val < 512 * x.val + 128 * p.val + 128; omega
    | 1 => show 128 * z.val ≤ (i 1).val ∧ (i 1).val < 128 * z.val + 128; omega

theorem blkK_disjoint (a b : Fin 2 × Fin 4 × Fin 4) (h : a ≠ b) : Disjoint (blkK a) (blkK b) := by
  refine Finset.disjoint_left.mpr fun i ha hb => h ?_
  rw [mem_blkK] at ha hb
  exact Prod.ext (Fin.ext (ha.1.symm.trans hb.1)) (Prod.ext (Fin.ext (ha.2.1.symm.trans hb.2.1)) (Fin.ext (ha.2.2.symm.trans hb.2.2)))

set_option backward.proofsInPublic true in
/-- The block of the result an element is in. -/
def blkOf (i : S1024x512.Idx) : Fin 2 × Fin 4 × Fin 4 :=
  (⟨(i 0).val / 512, by have : (i 0).val < 1024 := (i 0).isLt; omega⟩, ⟨(i 0).val % 512 / 128, by omega⟩,
    ⟨(i 1).val / 128, by have : (i 1).val < 512 := (i 1).isLt; omega⟩)
set_option backward.proofsInPublic true in
/-- Where in its block an element is. -/
def inBlk (i : S1024x512.Idx) : S128x128.Idx :=
  fun | 0 => ⟨(i 0).val % 128, Nat.mod_lt _ (by decide)⟩ | 1 => ⟨(i 1).val % 128, Nat.mod_lt _ (by decide)⟩

theorem blkK_cover : Finset.univ.biUnion blkK = Finset.univ :=
  Finset.eq_univ_of_forall fun i => Finset.mem_biUnion.mpr ⟨blkOf i, Finset.mem_univ _, (mem_blkK _ i).mpr ⟨rfl, rfl, rfl⟩⟩

/-- The result of device `c`: every block finished. -/
def outAt : (cc0_stg1_0 : Ref sig .tc).ty.Contents (Elt F) :=
  fun i : S1024x512.Idx => goal m ρ c (blkOf i).1 (blkOf i).2.1 (blkOf i).2.2 (inBlk i)

/-- An element of block `(x, p, z)`, by its place in the block. -/
theorem emb_blk' (x : Fin 2) (p z : Fin 4) (y : S128x128.Idx) (i : S1024x512.Idx) (hi : i = (slM x p z).view.emb y) :
    blkOf i = (x, p, z) ∧ inBlk i = y := by
  have y0 : (y 0).val < 128 := (y 0).isLt
  have y1 : (y 1).val < 128 := (y 1).isLt
  have hp := p.isLt
  have e0 : (i 0).val = 512 * x.val + 128 * p.val + 1 * (y 0).val := by rw [hi]; rfl
  have e1 : (i 1).val = 128 * z.val + 1 * (y 1).val := by rw [hi]; rfl
  refine ⟨Prod.ext (Fin.ext ?_) (Prod.ext (Fin.ext ?_) (Fin.ext ?_)), funext fun a => Fin.ext ?_⟩
  · show (i 0).val / 512 = x.val
    omega
  · show (i 0).val % 512 / 128 = p.val
    omega
  · show (i 1).val / 128 = z.val
    omega
  · match a with
    | 0 => show (i 0).val % 128 = (y 0).val; omega
    | 1 => show (i 1).val % 128 = (y 1).val; omega
theorem emb_blk (x : Fin 2) (p z : Fin 4) (y : S128x128.Idx) :
    blkOf ((slM x p z).view.emb y) = (x, p, z) ∧ inBlk ((slM x p z).view.emb y) = y := emb_blk' x p z y _ rfl

/-- Contents that read as a finished block agree with the result there. -/
theorem agree_blk (x : Fin 2) (p z : Fin 4) (f : Buf (Elt F) ((slM x p z).view.loc (c : Thread nD τ)))
    (hf : (slM x p z).view.read (Elt F) f = goal m ρ c x p z) : ∀ i ∈ blkK (x, p, z), f i = outAt m ρ c i := by
  intro i hi
  obtain ⟨y, -, rfl⟩ := Finset.mem_map.mp hi
  obtain ⟨e1, e2⟩ := emb_blk x p z y
  have h : f ((slM x p z).view.emb y) = goal m ρ c x p z y := congrFun hf y
  refine h.trans ?_
  show _ = goal m ρ c (blkOf ((slM x p z).view.emb y)).1 (blkOf ((slM x p z).view.emb y)).2.1 (blkOf ((slM x p z).view.emb y)).2.2 (inBlk ((slM x p z).view.emb y))
  rw [e1, e2]

omit [FloatOps F] in
theorem two (x : Fin 2) (Φ : Fin 2 → sProp 𝕄) : bigSep Finset.univ Φ = iprop(Φ x ∗ Φ (1 - x)) := by
  rw [bigSep_univ_eq_bigSepL [x, 1 - x] (by revert x; decide) (by revert x; decide)]
  simp only [bigSepL_cons_cons, bigSepL_singleton]
  rfl

theorem sub_sub_four : ∀ a b : Fin 4, a - (a - b) = b := by decide

omit [FloatOps F] in
/-- The column blocks in the order they come around. -/
theorem around (Φ : Fin 4 → sProp 𝕄) : bigSep Finset.univ Φ = bigSep Finset.univ fun k => Φ (col c k) :=
  bigSep_univ_equiv ⟨fun k => col c k, fun k => col c k, sub_sub_four (zOf c), sub_sub_four (zOf c)⟩ Φ

omit [FloatOps F] in
/-- All blocks of the result, the device's own rows first. -/
theorem blocks_eq (Φ : Fin 2 × Fin 4 × Fin 4 → sProp 𝕄) :
    bigSep Finset.univ Φ = iprop((bigSep Finset.univ fun p => bigSep Finset.univ fun k => Φ (xOf c, p, col c k))
      ∗ (bigSep Finset.univ fun p => bigSep Finset.univ fun k => Φ (1 - xOf c, p, col c k))) := by
  have h (x : Fin 2) : (bigSep Finset.univ fun pz : Fin 4 × Fin 4 => Φ (x, pz))
      = bigSep Finset.univ fun p => bigSep Finset.univ fun k => Φ (x, p, col c k) := by
    rw [bigSep_univ_prod]
    exact bigSep_congr fun p _ => around c fun z => Φ (x, p, z)
  rw [bigSep_univ_prod, two (xOf c), h, h]

omit [FloatOps F] in
/-- The staged result as free blocks. -/
theorem out_split (f) : (((c : Thread nD τ).loc cc0_stg1_0) ↦{fullShare} f)
    ⊢ (iprop((bigSep Finset.univ fun p => bigSep Finset.univ fun k => free c (slM (xOf c) p (col c k)))
      ∗ (bigSep Finset.univ fun p => bigSep Finset.univ fun k => free c (slM (1 - xOf c) p (col c k)))) : sProp 𝕄) := by
  rw [← blocks_eq c (fun b => free c (slM b.1 b.2.1 b.2.2)), Ring.pointsTo_blocks blkK blkK_disjoint blkK_cover f]
  exact bigSep_each fun b => by unfold free; iintro H; iexists f; iexact H

/-- The finished blocks as the result. -/
theorem out_join : iprop((bigSep Finset.univ fun p => bigSep Finset.univ fun k => mine m ρ c p k fullShare)
      ∗ (bigSep Finset.univ fun p => bigSep Finset.univ fun k => got m ρ c p k))
    ⊢ (((c : Thread nD τ).loc cc0_stg1_0) ↦{fullShare} outAt m ρ c : sProp 𝕄) := by
  rw [← blocks_eq c (fun b => has c (slM b.1 b.2.1 b.2.2) fullShare (goal m ρ c b.1 b.2.1 b.2.2)),
    Ring.pointsTo_blocks (ℓ := (c : Thread nD τ).loc cc0_stg1_0) blkK blkK_disjoint blkK_cover (outAt m ρ c)]
  refine bigSep_each fun b => ?_
  obtain ⟨x, p, z⟩ := b
  unfold has owns
  iintro ⟨%f, %hf, H⟩
  iapply (Entails.of_eq (pointsTo_congr (agree_blk m ρ c x p z f hf)))
  iexact H

end Cert.KernelIdeal.RingSum

end

end
-- ==== Proof.Body.lean ====
module

public import proofs.«01_k».proof.Proof.Blocks

/-!
# The body of the kernel

What a device starts from and ends with, and that the body, barrier first, takes it there.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : CI → ℕ) (c : Dev nD)

/-! ## What a device starts from -/

/-- A device's places in the rounds of a copy it makes, and the copy's two duties. -/
def sndGhost (t : T) : sProp 𝕄 :=
  iprop(atPos ER (cell c (t, false)) 0 ∅ 0 ∗ dutyTok ER (cell c (t, false)) 0 0 ∗ dutyTok ER (cell (tgt t c) (t, true)) 0 0)

/-- The duties of the five signals a device gives, in the order it gives them. -/
def barToks : sProp 𝕄 :=
  iprop(dutyTok ER (barCell (leftY c)) 0 0 ∗ dutyTok ER (barCell (rightY c)) 0 1 ∗ dutyTok ER (barCell (leftZ c)) 0 2
    ∗ dutyTok ER (barCell (rightZ c)) 0 3 ∗ dutyTok ER (barCell (mate c)) 0 4)

/-- What stays with a device of the ghost state: its places and the duties it pays. -/
def linear : sProp 𝕄 :=
  iprop(atPos ER (barCell c) 0 ∅ 0 ∗ barToks c ∗ (bigSep Finset.univ fun t : T => sndGhost c t)
    ∗ bigSep Finset.univ fun t : T => atPos ER (cell c (t, true)) 0 ∅ 0)

/-- The credits a device waits with. -/
def credits : sProp 𝕄 :=
  iprop(cred (tallyAt (barCell c) () 5) ∗ bigSep Finset.univ fun t : T => cred (tallyAt (cell c (t, true)) () N))

/-- What a device's body starts from. -/
def start : sProp 𝕄 :=
  iprop((∃ K, records m ρ K ∗ linear c) ∗ credits c ∗ levAts L lv)

/-- The two buffers of partial sums, at some contents. -/
def scratch : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- All semaphores of the copies at zero. -/
def zeros : sProp 𝕄 := bigSep Finset.univ fun tb : T × Bool => zero c tb

def Φ₀ : sProp 𝕄 := iprop(start m ρ c ∗ scratch c)
def Φ₁ : sProp 𝕄 := iprop(scratch c ∗ zeros c ∗ semVal (barCell c) 0)

/-- The staged blocks before and after the body, and what the device owes then. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-! ## The barrier's exchange of landing places -/

omit [FloatOps F] in
theorem col_mate (k : Fin 4) : col (mate c) k = col c k := by unfold col; rw [zOf_mate]

omit [FloatOps F] in
/-- The own slots are the landing places of the neighbour before on the second axis. -/
theorem pay_leftY : (barPay (leftY c) 0 : sProp 𝕄) = slotsR c := by
  show (bigSep Finset.univ fun p : Fin 4 => bigSep Finset.univ fun s : Fin 3 => free (rightY (leftY c)) (slot rM p s)) = _
  rw [right_leftY]; rfl
omit [FloatOps F] in
/-- Blocks of the own rows are the landing places of the neighbour before on the last axis. -/
theorem pay_leftZ : (barPay (leftZ c) 2 : sProp 𝕄)
    = bigSep Finset.univ fun p : Fin 4 => bigSep Finset.univ fun h : Fin 3 => free c (slM (xOf c) p (col c h.succ)) := by
  show (bigSep Finset.univ fun p : Fin 4 => bigSep Finset.univ fun h : Fin 3 =>
    free (rightZ (leftZ c)) (slM (xOf (leftZ c)) p (col (leftZ c) h.castSucc))) = _
  rw [right_leftZ, xOf_leftZ]
  exact bigSep_congr fun p _ => bigSep_congr fun h _ => by rw [col_leftZ]
omit [FloatOps F] in
/-- Blocks of the partner's rows are the landing places of the partner. -/
theorem pay_mate : (barPay (mate c) 4 : sProp 𝕄)
    = bigSep Finset.univ fun p : Fin 4 => bigSep Finset.univ fun k : Fin 4 => free c (slM (1 - xOf c) p (col c k)) := by
  show (bigSep Finset.univ fun p : Fin 4 => bigSep Finset.univ fun k : Fin 4 =>
    free (mate (mate c)) (slM (xOf (mate c)) p (col (mate c) k))) = _
  rw [mate_mate, xOf_mate]
  exact bigSep_congr fun p _ => bigSep_congr fun k _ => by rw [col_mate]

omit [FloatOps F] in
/-- Of the blocks of the own rows one is the device's own, the others are landing places. -/
theorem own_rows : (bigSep Finset.univ fun p => bigSep Finset.univ fun k => free c (slM (xOf c) p (col c k)))
    ⊢ (iprop((bigSep Finset.univ fun p => free c (slM (xOf c) p (col c 0))) ∗ barPay (leftZ c) 2) : sProp 𝕄) := by
  rw [pay_leftZ, ← bigSep_sep']
  refine bigSep_each fun p => ?_
  rw [bigSep_four, bigSep_three]
  exact Entails.refl _

omit [FloatOps F] in
/-- What the barrier hands over, copy by copy. -/
theorem landings : iprop(barPay c 0 ∗ barPay c 2 ∗ barPay c 4)
    ⊢ (bigSep Finset.univ fun p : Fin 4 => bigSep Finset.univ fun k : Kd => dstFree c (p, k) : sProp 𝕄) := by
  unfold barPay
  rw [← bigSep_sep', ← bigSep_sep']
  refine bigSep_each fun p => ?_
  rw [bigSep_three, bigSep_three, bigSep_four, bigSep_kds]
  iintro ⟨⟨H0, H1, H2⟩, ⟨A0, A1, A2⟩, B0, B1, B2, B3⟩
  isplitl [H0]; · iexact H0
  isplitl [H1]; · iexact H1
  isplitl [H2]; · iexact H2
  isplitl [A0]; · iexact A0
  isplitl [A1]; · iexact A1
  isplitl [A2]; · iexact A2
  isplitl [B0]; · iexact B0
  isplitl [B1]; · iexact B1
  isplitl [B2]; · iexact B2
  iexact B3

omit [FloatOps F] in
theorem sndGhost_snd (t : T) : iprop(sndGhost c t ∗ dstFree c t) ⊢ (snd c t : sProp 𝕄) := by
  unfold sndGhost snd
  iintro ⟨⟨H1, H2, H3⟩, H4⟩
  isplitl [H1]; · iexact H1
  isplitl [H2]; · iexact H2
  isplitl [H3]; · iexact H3
  iexact H4

omit [FloatOps F] in
/-- The lanes' starts, put together. -/
theorem lanesStart : iprop((bigSep Finset.univ fun t : T => sndGhost c t) ∗ (bigSep Finset.univ fun t : T => atPos ER (cell c (t, true)) 0 ∅ 0)
      ∗ (bigSep Finset.univ fun t : T => cred (tallyAt (cell c (t, true)) () N))
      ∗ (bigSep Finset.univ fun p : Fin 4 => bigSep Finset.univ fun k : Kd => dstFree c (p, k))
      ∗ slotsS c ∗ bigSep Finset.univ fun p => free c (slM (xOf c) p (col c 0)))
    ⊢ (bigSep Finset.univ fun p => laneStart c p : sProp 𝕄) := by
  rw [bigSep_univ_prod (fun t : T => (sndGhost c t : sProp 𝕄)), bigSep_univ_prod (fun t : T => (atPos ER (cell c (t, true)) 0 ∅ 0 : sProp 𝕄)),
    bigSep_univ_prod (fun t : T => (cred (tallyAt (cell c (t, true)) () N) : sProp 𝕄))]
  unfold slotsS
  rw [← bigSep_sep', ← bigSep_sep', ← bigSep_sep', ← bigSep_sep', ← bigSep_sep']
  refine bigSep_each fun p => ?_
  unfold laneStart
  iintro ⟨HG, HA, HC, HD, HS, HO⟩
  isplitl [HG HD]
  · iapply ((Entails.of_eq (bigSep_sep' Finset.univ (fun k : Kd => (sndGhost c (p, k) : sProp 𝕄)) (fun k => dstFree c (p, k))).symm).trans
      (bigSep_each fun k => sndGhost_snd c (p, k)))
    isplitl [HG] <;> iassumption
  isplitl [HA HC]
  · iapply (Entails.of_eq (bigSep_sep' Finset.univ (fun k : Kd => (atPos ER (cell c ((p, k), true)) 0 ∅ 0 : sProp 𝕄))
      (fun k => cred (tallyAt (cell c ((p, k), true)) () N))).symm)
    isplitl [HA] <;> iassumption
  isplitl [HS] <;> iassumption

omit [FloatOps F] in
theorem bigSep_bool (Φ : Bool → sProp 𝕄) : bigSep Finset.univ Φ = iprop(Φ false ∗ Φ true) := by
  rw [bigSep_univ_eq_bigSepL [false, true] (by decide) (by decide)]
  simp only [bigSepL_cons_cons, bigSepL_singleton]
  rfl

/-- The lanes' ends, taken apart. -/
theorem lanesEnd : (bigSep Finset.univ fun p => laneEnd m ρ c p)
    ⊢ iprop(zeros c ∗ (slotsS c ∗ slotsR c) ∗ (bigSep Finset.univ fun p => bigSep Finset.univ fun k => mine m ρ c p k fullShare)
        ∗ bigSep Finset.univ fun p => bigSep Finset.univ fun k => got m ρ c p k) := by
  unfold zeros slotsS slotsR
  rw [bigSep_univ_prod (fun tb : T × Bool => (zero c tb : sProp 𝕄)), bigSep_univ_prod (fun t : T => (bigSep Finset.univ fun b => zero c (t, b) : sProp 𝕄)),
    ← bigSep_sep', ← bigSep_sep', ← bigSep_sep', ← bigSep_sep']
  refine bigSep_each fun p => ?_
  unfold laneEnd
  rw [bigSep_sep' Finset.univ (fun s : Fin 3 => (free c (slot sM p s) : sProp 𝕄)), bigSep_sep' Finset.univ (fun k : Fin 4 => mine m ρ c p k fullShare),
    bigSep_congr (s := Finset.univ) fun (k : Kd) _ => bigSep_bool (F := F) fun b => zero c ((p, k), b)]

/-! ## The body -/

/-- A signal: its duty and what it hands over are given away, and a unit less is owed. -/
theorem run_signal (n : Dev nD) (d : Fin 5) (O : CellTallies nD τ sig Unit) (W : Waits sig Unit) (k : Kern F) (Q : PUnit → sProp 𝕄) :
    iprop(records m ρ K ∗ owes (c : Thread nD τ) (O + tallyAt (barCell n) () 1) W ∗ dutyTok ER (barCell n) 0 d ∗ barPay n d
        ∗ (owes (c : Thread nD τ) O W -∗ runs c k Q))
      ⊢ runs c (signal n k) Q := by
  iintro ⟨#HR, HO, HT, HP, Hk⟩
  ihave HR' := (record m ρ K (n, none)) $$ HR
  icases HR' with ⟨#HI, #HrB⟩
  unfold signal
  iapply (Rounds.wp_signal 𝒱₀ ER (Rd m ρ) (c : Thread nD τ) none (dst := (n : Thread nD τ)) (κ := K (n, none))
      (d := d) (by rw [duties_bar]; exact Finset.mem_univ _) ((amount_bar m ρ n d).trans (by decide)) () O rfl)
    $$ [HO HT HP]
  · isplitr; · iexact HI
    isplitl [HO]; · iexact HO
    isplitl [HT]; · iexact HT
    isplitl [HP]; · rw [payload_bar]; iexact HP
    iexact HrB
  iexact Hk

/-- The wait for the five neighbours. -/
theorem run_barrier (W : Waits sig Unit) (Q : PUnit → sProp 𝕄) :
    iprop(records m ρ K ∗ levAts L lv ∗ owes (c : Thread nD τ) (owed c 0) W ∗ atPos ER (barCell c) 0 ∅ 0 ∗ cred (tallyAt (barCell c) () 5)
        ∗ (((∃ W, owes (c : Thread nD τ) (owed c 0) W) ∗ semVal (barCell c) 0 ∗ barPay c 0 ∗ barPay c 2 ∗ barPay c 4) -∗ runs c (steps c) Q))
      ⊢ runs c (.op (.semWait barSem (5#32 : BitVec 32).toInt) fun _ => steps c) Q := by
  iintro ⟨#HR, #Hlev, HO, HatB, HcB, Hk⟩
  ihave HR' := (record m ρ K (c, none)) $$ HR
  icases HR' with ⟨#HI, #HrB⟩
  iapply (Rounds.wp_wait_rest_token 𝒱₀ ER (Rd m ρ) (c : Thread nD τ) none (κ := K (c, none))
      (wpE_semWait_eq 𝒱₀ (c : Thread nD τ) none Set.univ) (Set.mem_univ _) () (O := owed c 0) (W := W) (R := 0) (m := 0) (T := ∅)
      (by rw [expect_bar]; decide)) $$ [HcB HO HatB]
  · isplitr; · iexact HI
    isplitl [HcB]; · iexact HcB
    isplitl [HO]; · iexact HO
    isplitr
    · iapply (mayWait_of c (.reg barSem) 1 (sends.drop 0) (lv_bar c) (fun t _ => rank_pos t)); iexact Hlev
    iexact HatB
  iintro ⟨HO, HatB, -, Hpay⟩
  ihave Hp := (Entails.of_eq (rest_bar m ρ c)) $$ Hpay
  icases Hp with ⟨H0, -, H2, -, H4⟩
  imod (Rounds.cell_close ER (Rd m ρ) (Set.mem_univ (K (c, none))) (fun h => h) (R := 0 + 1) (duties_later m ρ (barCell c))) $$ [HatB] with HzB
  · isplitr; · iexact HI
    iexact HatB
  iapply Hk
  isplitl [HO]; · iexists _; iexact HO
  isplitl [HzB]; · iexact HzB
  isplitl [H0]; · iexact H0
  isplitl [H2] <;> iassumption

/-- What the body takes, under given names. -/
def bodyIn (W : Waits sig Unit) : sProp 𝕄 :=
  iprop(records m ρ K ∗ linear c ∗ credits c ∗ levAts L lv ∗ scratch c ∗ owes (c : Thread nD τ) (owed₀ c) W ∗ xPts m ρ c
    ∗ ∃ f : Buf (Elt F) ((c : Thread nD τ).loc cc0_stg1_0), ((c : Thread nD τ).loc cc0_stg1_0) ↦{fullShare} f)

/-- What the body leaves. -/
def bodyOut : sProp 𝕄 :=
  iprop(Φ₁ c ∗ (∃ W : Waits sig Unit, owes (c : Thread nD τ) 0 W) ∗ xPts m ρ c ∗ (((c : Thread nD τ).loc cc0_stg1_0) ↦{fullShare} outAt m ρ c))

/-- The body, from what it takes to what it leaves. -/
theorem run_body (W : Waits sig Unit) (Q : PUnit → sProp 𝕄) :
    iprop(bodyIn m ρ K c W ∗ (bodyOut m ρ c -∗ Q ⟨⟩)) ⊢ runs c (bodyOf c) Q := by
  unfold bodyIn linear barToks credits scratch owed₀ bodyOf
  iintro ⟨⟨#HR, ⟨HatB, ⟨T0, T1, T2, T3, T4⟩, HG, HA⟩, ⟨HcB, HC⟩, #Hlev, ⟨⟨%f0, HS⟩, ⟨%f1, HV⟩⟩, HO, HX, ⟨%fo, HY⟩⟩, Hk⟩
  ihave HY := (out_split c fo) $$ HY
  icases HY with ⟨Hown, Hoth⟩
  ihave Hown := (own_rows c) $$ Hown
  icases Hown with ⟨Hown, Hag⟩
  iapply (run_signal m ρ K c (leftY c) 0)
  isplitr; · iexact HR
  isplitl [HO]; · iexact HO
  isplitl [T0]; · iexact T0
  isplitl [HV]; · rw [pay_leftY]; iapply (slotsR_split c f1); iexact HV
  iintro HO
  iapply (run_signal m ρ K c (rightY c) 1)
  isplitr; · iexact HR
  isplitl [HO]; · iexact HO
  isplitl [T1]; · iexact T1
  isplitr; · unfold barPay; iempintro
  iintro HO
  iapply (run_signal m ρ K c (leftZ c) 2)
  isplitr; · iexact HR
  isplitl [HO]; · iexact HO
  isplitl [T2]; · iexact T2
  isplitl [Hag]; · iexact Hag
  iintro HO
  iapply (run_signal m ρ K c (rightZ c) 3)
  isplitr; · iexact HR
  isplitl [HO]; · iexact HO
  isplitl [T3]; · iexact T3
  isplitr; · unfold barPay; iempintro
  iintro HO
  iapply (run_signal m ρ K c (mate c) 4)
  isplitr; · iexact HR
  isplitl [HO]; · iexact HO
  isplitl [T4]; · iexact T4
  isplitl [Hoth]; · rw [pay_mate]; iexact Hoth
  iintro HO
  iapply (run_barrier m ρ K c W Q)
  isplitr; · iexact HR
  isplitr; · iexact Hlev
  isplitl [HO]; · iexact HO
  isplitl [HatB]; · iexact HatB
  isplitl [HcB]; · iexact HcB
  iintro ⟨HO, HzB, P0, P2, P4⟩
  ihave HD := (landings c) $$ [P0 P2 P4]
  · isplitl [P0]; · iexact P0
    isplitl [P2] <;> iassumption
  iapply (steps_spec (m := m) (ρ := ρ) (K := K) c Q)
  isplitl [HO HX]
  · unfold Env
    isplitr
    · isplitr; · iexact HR
      iexact Hlev
    isplitl [HX] <;> iassumption
  isplitl [HG HA HC HD HS Hown]
  · iapply (lanesStart c)
    isplitl [HG]; · iexact HG
    isplitl [HA]; · iexact HA
    isplitl [HC]; · iexact HC
    isplitl [HD]; · iexact HD
    isplitl [HS]; · iapply (slotsS_split c f0); iexact HS
    iexact Hown
  unfold Env
  iintro ⟨HL, -, HX, HO⟩
  ihave HL := (lanesEnd m ρ c) $$ HL
  icases HL with ⟨HZ, ⟨HS, HV⟩, HM, HN⟩
  iapply Hk
  unfold bodyOut Φ₁ scratch
  isplitl [HZ HzB HS HV]
  · isplitl [HS HV]
    · isplitl [HS]; · iapply (slotsS_join c f0); iexact HS
      iapply (slotsR_join c f1); iexact HV
    isplitl [HZ] <;> iassumption
  isplitl [HO]; · iexact HO
  isplitl [HX]; · iexact HX
  iapply (out_join m ρ c)
  isplitl [HM] <;> iassumption

/-! ## The obligation on one device -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged block at given contents. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost : sProp 𝕄 :=
  iprop(Φ₁ c ∗ (dats m ρ 0 c).owesAt () t₀.succ ∗ stg c cc0_stg0_0 (xv m ρ c) ∗ stg c cc0_stg1_0 (outAt m ρ c))

theorem sound_body :
    bodyPre m ρ c ⊢ runs c (cc0_body (F := F) xM (Memref.isWhole_whole _) oM (Memref.isWhole_whole _) sM (Memref.isWhole_whole _) rM
      (Memref.isWhole_whole _) cc0_scratch2 cc0_scratch3 cc0_scratch4 cc0_scratch5 cc0_scratch6 cc0_scratch7) (fun _ => bodyPost m ρ c) := by
  rw [body_eq]
  unfold bodyPre Φ₀ start runs
  rw [wp_deviceId]
  iintro ⟨⟨⟨⟨%K, HR, HL⟩, HC, Hlev⟩, HS⟩, Ho, ⟨%d0, %g0, %hg0, Hx⟩, ⟨%d1, %g1, %hg1, Hout⟩⟩
  have hx : g0 = xv m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owed₀ c from rfl]
  iapply (run_body m ρ K c W fun _ => bodyPost m ρ c)
  isplitr []
  · unfold bodyIn
    isplitl [HR]; · iexact HR
    isplitl [HL]; · iexact HL
    isplitl [HC]; · iexact HC
    isplitl [Hlev]; · iexact Hlev
    isplitl [HS]; · iexact HS
    isplitl [HO]; · iexact HO
    isplitl [Hx]; · iexact Hx
    iexists g1; iexact Hout
  unfold bodyOut bodyPost Dat.owesAt Pipeline.owesWithin
  rw [show (dats m ρ 0 c).owed t₀.succ = 0 from rfl]
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 65536 in
/-- The library's body obligation on a device. -/
theorem body_obligation : BodyObligation (dats (F := F) m ρ 0 c) (defs₀ (F := F)) 𝒱₀ () Set.univ := fun t => by
  rw [fin_N t]
  rw [bigSep_W, bigSep_W]
  simp only [owns_whole_eq]
  exact sound_body m ρ c

end Cert.KernelIdeal.RingSum

end

end
-- ==== Proof.Launch.lean ====
module

public import proofs.«01_k».proof.Proof.Body
public import Idealize.ShloMosaic.Lib.Pipeline.CollectiveSegs

/-!
# The launch

The ghost state of the schedule is made at launch and dealt to the devices; the credits are what the devices
owe; and the whole program runs from any memory to the memory with every device's result in place.
-/

@[expose] public section

noncomputable section

namespace Cert.KernelIdeal.RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : CI → ℕ) (c : Dev nD)

/-! ## Semaphores and duties -/

/-- The kernel's own semaphores: those of the copies. -/
abbrev osem : T × Bool → SemLoc sig := fun tb => .dma (semOf tb)

/-- No semaphore of a copy counts the staging of a block. -/
theorem stage_not_dma : ∀ (w : Fin 2) (s : Fin (spec0 w).nbuf) (tb : T × Bool), osem tb ≠ .dma ((spec0 w).sem s) := by decide +kernel
theorem osem_scoped : ∀ tb : T × Bool, (osem tb).isScoped .tc = true := by decide +kernel

theorem ownSemFacts : Pipeline.OwnSemFacts cfg0.spec osem :=
  ⟨osem_scoped, fun a b h => semOf_inj (SemLoc.dma.inj h), fun k w s => stage_not_dma w s k⟩

theorem csem_injective : Function.Injective csem := by
  intro a b h
  match a, b with
  | none, none => rfl
  | none, some b => exact absurd h.symm (dma_ne_bar _)
  | some a, none => exact absurd h (dma_ne_bar _)
  | some a, some b => exact congrArg some (semOf_inj (SemLoc.dma.inj h))

theorem kcell_injective : Function.Injective kcell := by
  rintro ⟨c, k⟩ ⟨c', k'⟩ h
  have h1 : c = c' := congrArg (fun g : GSem nD τ sig => g.1.1) h
  have h2 : csem k = csem k' := congrArg Prod.snd h
  exact Prod.ext h1 (csem_injective h2)

/-- All semaphores of the protocol. -/
def allCells : Finset (GSem nD τ sig) := Finset.univ.map ⟨kcell, kcell_injective⟩

/-- The duties of a device's own semaphores: the barrier's five and one for each semaphore of a copy. -/
def tokOf (x : Dev nD × (Fin 5 ⊕ (T × Bool))) : GSem nD τ sig × ℕ × Fin 5 := match x.2 with
  | .inl d => (barCell x.1, 0, d)
  | .inr tb => (cell x.1 tb, 0, 0)

theorem tokOf_injective : Function.Injective tokOf := by
  rintro ⟨c, j⟩ ⟨c', j'⟩ h
  have h1 : c = c' := by
    have := congrArg (fun x : GSem nD τ sig × ℕ × Fin 5 => x.1.1.1) h
    cases j <;> cases j' <;> exact this
  have hs := congrArg (fun x : GSem nD τ sig × ℕ × Fin 5 => x.1.2) h
  have hd := congrArg (fun x : GSem nD τ sig × ℕ × Fin 5 => x.2.2) h
  match j, j' with
  | .inl d, .inl d' => exact Prod.ext h1 (congrArg Sum.inl hd)
  | .inl d, .inr b => exact absurd hs.symm (dma_ne_bar _)
  | .inr a, .inl d => exact absurd hs (dma_ne_bar _)
  | .inr a, .inr b => exact Prod.ext h1 (congrArg Sum.inr (semOf_inj (SemLoc.dma.inj hs)))

/-- All duties. -/
def allToks : Finset (GSem nD τ sig × ℕ × Fin 5) := Finset.univ.map ⟨tokOf, tokOf_injective⟩

/-- The ghost state at launch. -/
def u₀ : UU :=
  (initOf (Pipeline.cells cfgs cellOf_inj) (Pipeline.launchToks cfgs cellOf_inj), initOf allCells allToks)

/-- The duties of a device's own semaphores, as assertions. -/
def toks : sProp 𝕄 :=
  iprop((bigSep Finset.univ fun d : Fin 5 => dutyTok ER (barCell c) 0 d) ∗ bigSep Finset.univ fun tb : T × Bool => dutyTok ER (cell c tb) 0 0)

/-- What a device is dealt at launch. -/
def G : sProp 𝕄 :=
  iprop((bigSep Finset.univ fun k : Option (T × Bool) => roundState ER (Rd m ρ) (kcell (c, k)) 0)
    ∗ (bigSep Finset.univ fun k : Option (T × Bool) => iprop(atPos ER (kcell (c, k)) 0 ∅ 0 ∗ reached ER (kcell (c, k)) 0)) ∗ toks c)

/-- What becomes of it once the semaphores' records are made. -/
def G' : sProp 𝕄 := iprop(∃ K, records m ρ K ∗ linear c)

/-- The ghost state at launch is every device's deal. -/
theorem fund_all : BI.own (ER (initOf allCells allToks)) ⊢ (|==> bigSep Finset.univ (G m ρ) : sProp 𝕄) := by
  have hX (Φ : GSem nD τ sig → sProp 𝕄) : bigSep allCells Φ
      = bigSep Finset.univ fun c : Dev nD => bigSep Finset.univ fun k : Option (T × Bool) => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [BI.bigSep_univ_sum]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_opt (Φ : Option (T × Bool) → sProp 𝕄) : bigSep Finset.univ Φ = iprop(Φ none ∗ bigSep Finset.univ fun tb => Φ (some tb)) := by
  rw [bigSep_univ_at _ none, show (Finset.univ : Finset (Option (T × Bool))).erase none = Finset.univ.map Function.Embedding.some from by
    ext x; cases x <;> simp, bigSep_map]
  rfl

omit [FloatOps F] in
theorem unscopedSems0_eq : (unscopedSems0 c : sProp 𝕄) = semVal (barCell c) 0 := by
  unfold unscopedSems0; rw [bigSep_eq_bigSepL_of_eq [SemLoc.reg barSem] (by decide +kernel) (by decide)]; rfl

/-- A device's own semaphores at zero. -/
abbrev own0 : sProp 𝕄 := Pipeline.ownSems0 (Ix := Unit) (Name := ℕ) (U := UU) (Lvl := ℕ) (Val := Elt F) (τ := τ) osem c

omit [FloatOps F] in
theorem sems0_eq : iprop(own0 c ∗ unscopedSems0 c) ⊢ (bigSep Finset.univ fun k => semVal (kcell (c, k)) 0 : sProp 𝕄) := by
  rw [unscopedSems0_eq, bigSep_opt]
  exact sep_comm.1

theorem core_alloc : iprop(own0 c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k => semVal (kcell (c, k)) 0) ∗ bigSep Finset.univ fun k => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties to those who pay them -/

/-- The duties a device pays. -/
def payToks : sProp 𝕄 :=
  iprop(barToks c ∗ bigSep Finset.univ fun t : T => iprop(dutyTok ER (cell c (t, false)) 0 0 ∗ dutyTok ER (cell (tgt t c) (t, true)) 0 0))

omit [FloatOps F] in
theorem bigSep_five (Φ : Fin 5 → sProp 𝕄) : bigSep Finset.univ Φ = iprop(Φ 0 ∗ Φ 1 ∗ Φ 2 ∗ Φ 3 ∗ Φ 4) := by
  rw [bigSep_univ_eq_bigSepL [0, 1, 2, 3, 4] (by decide) (by decide)]
  simp only [bigSepL_cons_cons, bigSepL_singleton]
  rfl

omit [FloatOps F] in
/-- The barriers' duties go to the neighbours. -/
theorem bar_deal : (bigSep Finset.univ fun c : Dev nD => bigSep Finset.univ fun d : Fin 5 => (dutyTok ER (barCell c) 0 d : sProp 𝕄))
    = bigSep Finset.univ fun c : Dev nD => (barToks c : sProp 𝕄) := by
  unfold barToks
  rw [bigSep_congr fun (c : Dev nD) _ => bigSep_five (F := F) fun d => dutyTok ER (barCell c) 0 d]
  simp only [bigSep_sep']
  rw [bigSep_univ_equiv ringY.symm (fun c : Dev nD => (dutyTok ER (barCell c) 0 0 : sProp 𝕄)),
    bigSep_univ_equiv ringY (fun c : Dev nD => (dutyTok ER (barCell c) 0 1 : sProp 𝕄)),
    bigSep_univ_equiv ringZ.symm (fun c : Dev nD => (dutyTok ER (barCell c) 0 2 : sProp 𝕄)),
    bigSep_univ_equiv ringZ (fun c : Dev nD => (dutyTok ER (barCell c) 0 3 : sProp 𝕄)),
    bigSep_univ_equiv swapX (fun c : Dev nD => (dutyTok ER (barCell c) 0 4 : sProp 𝕄))]
  rfl

omit [FloatOps F] in
/-- The duty of an arrival goes to the sender. -/
theorem cell_deal : (bigSep Finset.univ fun c : Dev nD => bigSep Finset.univ fun tb : T × Bool => (dutyTok ER (cell c tb) 0 0 : sProp 𝕄))
    = bigSep Finset.univ fun c : Dev nD => bigSep Finset.univ fun t : T =>
        (iprop(dutyTok ER (cell c (t, false)) 0 0 ∗ dutyTok ER (cell (tgt t c) (t, true)) 0 0) : sProp 𝕄) := by
  rw [bigSep_congr fun (c : Dev nD) _ => bigSep_univ_prod (fun tb : T × Bool => (dutyTok ER (cell c tb) 0 0 : sProp 𝕄)),
    BI.bigSep_univ_comm, BI.bigSep_univ_comm (fun (c : Dev nD) (t : T) => _)]
  refine bigSep_congr fun t _ => ?_
  rw [bigSep_congr fun (c : Dev nD) _ => bigSep_bool (F := F) fun b => dutyTok ER (cell c (t, b)) 0 0, bigSep_sep', bigSep_sep',
    bigSep_univ_equiv (along t) (fun c : Dev nD => (dutyTok ER (cell c (t, true)) 0 0 : sProp 𝕄))]
  rfl

omit [FloatOps F] in
theorem toks_around : (bigSep Finset.univ fun c : Dev nD => (toks c : sProp 𝕄)) ⊢ bigSep Finset.univ fun c : Dev nD => payToks c := by
  unfold toks payToks
  rw [bigSep_sep', bigSep_sep', bar_deal, cell_deal]

omit [FloatOps F] in
/-- A device's places and the duties it pays are its share. -/
theorem linear_intro : iprop((bigSep Finset.univ fun k => atPos ER (kcell (c, k)) 0 ∅ 0) ∗ payToks c) ⊢ (linear c : sProp 𝕄) := by
  unfold payToks linear sndGhost
  rw [bigSep_opt, bigSep_univ_prod (fun tb : T × Bool => (atPos ER (kcell (c, some tb)) 0 ∅ 0 : sProp 𝕄)),
    bigSep_congr (fun (t : T) _ => bigSep_bool (F := F) fun b => atPos ER (kcell (c, some (t, b))) 0 ∅ 0), bigSep_sep', bigSep_sep', bigSep_sep', bigSep_sep']
  iintro ⟨⟨HB, HS, HR⟩, HT, H1, H2⟩
  isplitl [HB]; · iexact HB
  isplitl [HT]; · iexact HT
  isplitl [HS H1 H2]
  · isplitl [HS]; · iexact HS
    isplitl [H1] <;> iassumption
  iexact HR

/-- Every device takes a copy of the records to its share. -/
theorem share_records : iprop(records m ρ K ∗ bigSep Finset.univ fun c : Dev nD => linear c) ⊢ bigSep Finset.univ (G' m ρ) := by
  refine (sep_mono_left (BI.bigSep_of_persistent (Finset.univ : Finset (Dev nD)) (records m ρ K))).trans ?_
  rw [← bigSep_sep']
  exact bigSep_each fun c => by unfold G'; iintro H; iexists K; iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : CI => iprop(∃ κ : ℕ, cellInv ER (Rd m ρ) κ (kcell ck))),
    bigSep_congr (s := Finset.univ) (fun (c : Dev nD) _ => bigSep_sep' Finset.univ (fun k => (atPos ER (kcell (c, k)) 0 ∅ 0 : sProp 𝕄)) (fun k => reached ER (kcell (c, k)) 0)),
    bigSep_sep', ← bigSep_univ_prod (fun ck : CI => (reached ER (kcell ck) 0 : sProp 𝕄))]
  iintro ⟨HI, ⟨Hat, #HR⟩, Htok⟩
  ihave HK := (BI.bigSep_exists_pi Finset.univ (fun (ck : CI) (κ : ℕ) => (cellInv ER (Rd m ρ) κ (kcell ck) : sProp 𝕄))) $$ HI
  icases HK with ⟨%K, #HI⟩
  ihave Htk := (toks_around (F := F)) $$ Htok
  iapply (share_records m ρ K)
  isplitr
  · unfold records; rw [bigSep_sep']; isplitl; · iexact HI
    iexact HR
  · iapply ((Entails.of_eq (bigSep_sep' Finset.univ (fun c : Dev nD => bigSep Finset.univ fun k => (atPos ER (kcell (c, k)) 0 ∅ 0 : sProp 𝕄)) payToks).symm).trans
      (bigSep_each fun c => linear_intro c))
    isplitl [Hat]; · iexact Hat
    iexact Htk

theorem glob : (bigSep Finset.univ fun c => iprop(own0 c ∗ unscopedSems0 c ∗ G m ρ c) : sProp 𝕄) ⊢ |={Set.univ}=> bigSep Finset.univ (G' m ρ) :=
  ((bigSep_mono fun c _ => core_alloc m ρ c).trans (bigSep_fupd _ _)).trans (BI.fupd_mono (regroup m ρ))

/-! ## The credits -/

theorem bar_eq_iff {a b : Dev nD} : Iff (barCell a = barCell b) (a = b) :=
  ⟨fun h => congrArg (fun g : GSem nD τ sig => g.1.1) h, fun h => h ▸ rfl⟩
theorem cell_eq_iff {a b : Dev nD} {x y : T × Bool} : Iff (cell a x = cell b y) (a = b ∧ x = y) :=
  ⟨fun h => ⟨congrArg (fun g : GSem nD τ sig => g.1.1) h, semOf_inj (SemLoc.dma.inj (congrArg Prod.snd h))⟩, fun ⟨h1, h2⟩ => by rw [h1, h2]⟩

/-- Every copy is made once. -/
theorem sends_nodup : sends.Nodup := by decide +kernel
theorem mem_sends : ∀ t : T, t ∈ sends := by decide +kernel

theorem tally_bar (n : Dev nD) : tallyAt (barCell n) () 1 (barCell c) () = if c = n then 1 else 0 := by
  rw [tallyAt_apply]
  by_cases h : c = n
  · rw [if_pos h, if_pos ⟨congrArg barCell h, rfl⟩]
  · rw [if_neg h, if_neg fun h' => h (bar_eq_iff.mp h'.1)]

/-- What a list of copies owes a barrier: nothing. -/
theorem dues_bar (d : Dev nD) (l : List T) : dues d l (barCell c) () = 0 := by
  by_contra h
  obtain ⟨t, -, e⟩ := dues_pos (Nat.pos_of_ne_zero h)
  exact dma_ne_bar _ (congrArg Prod.snd e).symm

/-- What a list of copies owes an arrival. -/
theorem dues_cell (d : Dev nD) (t : T) : ∀ l : List T, l.Nodup → dues d l (cell c (t, true)) () = if t ∈ l ∧ c = tgt t d then N else 0
  | [], _ => by rw [if_neg fun h => List.not_mem_nil h.1]; rfl
  | u :: l, hl => by
    obtain ⟨hu, hl⟩ := List.nodup_cons.mp hl
    show (dues d l + tallyAt (cell (tgt u d) (u, true)) () N) (cell c (t, true)) () = _
    rw [Pi.add_apply, Finsupp.add_apply, dues_cell d t l hl, tallyAt_apply]
    by_cases htu : t = u
    · subst htu
      rw [if_neg fun h => hu h.1, Nat.zero_add]
      by_cases hc : c = tgt t d
      · rw [if_pos (c := _ = _ ∧ _) ⟨by rw [hc], rfl⟩, if_pos ⟨List.mem_cons_self, hc⟩]
      · rw [if_neg (c := _ = _ ∧ _) fun h : cell c (t, true) = cell (tgt t d) (t, true) ∧ () = () => hc (cell_eq_iff.mp h.1).1,
          if_neg fun h : t ∈ t :: l ∧ c = tgt t d => hc h.2]
    · rw [if_neg fun h : cell c (t, true) = cell (tgt u d) (u, true) ∧ () = () => htu (Prod.mk.inj (cell_eq_iff.mp h.1).2).1, Nat.add_zero]
      exact if_congr ⟨fun h => ⟨List.mem_cons_of_mem _ h.1, h.2⟩, fun h => ⟨(List.mem_cons.mp h.1).resolve_left htu, h.2⟩⟩ rfl rfl

theorem owed_bar (d : Dev nD) : owed₀ d (barCell c) () = (if d = swapX c then 1 else 0) + (if d = ringZ.symm c then 1 else 0)
    + (if d = ringZ c then 1 else 0) + (if d = ringY.symm c then 1 else 0) + (if d = ringY c then 1 else 0) := by
  have flip (e : Dev nD ≃ Dev nD) : (if c = e d then 1 else 0) = if d = e.symm c then 1 else 0 :=
    if_congr ⟨fun h => by rw [h, Equiv.symm_apply_apply], fun h => by rw [h, Equiv.apply_symm_apply]⟩ rfl rfl
  unfold owed₀
  simp only [Pi.add_apply, Finsupp.add_apply, tally_bar, dues_bar, Nat.zero_add]
  rw [show (if c = mate d then 1 else 0) = _ from flip swapX, show (if c = rightZ d then 1 else 0) = _ from flip ringZ,
    show (if c = leftZ d then 1 else 0) = _ from flip ringZ.symm, show (if c = rightY d then 1 else 0) = _ from flip ringY,
    show (if c = leftY d then 1 else 0) = _ from flip ringY.symm]
  rfl

theorem owed_cell (d : Dev nD) (t : T) : owed₀ d (cell c (t, true)) () = if d = org t c then N else 0 := by
  have hb (n : Dev nD) : tallyAt (barCell n) () 1 (cell c (t, true)) () = 0 := by
    rw [tallyAt_apply, if_neg fun h => dma_ne_bar _ (congrArg Prod.snd h.1)]
  unfold owed₀
  simp only [Pi.add_apply, Finsupp.add_apply, hb, Nat.add_zero]
  rw [show owed d 0 = dues d sends from rfl, dues_cell c d t _ sends_nodup]
  exact if_congr ⟨fun h => by rw [h.2, org_tgt], fun h => ⟨mem_sends t, by rw [h, tgt_org]⟩⟩ rfl rfl

theorem launch_bar : tallyOn (barCell c) (launchCredit (Pipeline.owing owed₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owed_bar c d]
  simp only [Finset.sum_add_distrib]
  simp only [Finset.sum_ite_eq', Finset.mem_univ, if_true]

theorem launch_cell (t : T) : tallyOn (cell c (t, true)) (launchCredit (Pipeline.owing owed₀) 0 (cell c (t, true)))
    = (tallyAt (cell c (t, true)) () N : CellTallies nD τ sig Unit) := by
  unfold tallyAt; refine congrArg _ (Finsupp.ext fun u => ?_); cases u
  rw [Pipeline.launchCredit_owing, Finsupp.single_eq_same, Finset.sum_congr rfl fun d _ => owed_cell c d t,
    Finset.sum_ite_eq' Finset.univ (org t c) fun _ => N, if_pos (Finset.mem_univ _)]

/-- Where arrivals are counted. -/
def recvLoc (t : T) : SemLoc sig := .dma (semOf (t, true))
theorem recvLoc_injective : Function.Injective recvLoc := fun a b h => (Prod.mk.inj (semOf_inj (SemLoc.dma.inj h))).1

omit [FloatOps F] in
/-- The launch credits of a device are what it waits with. -/
theorem creds : (Pipeline.launchCred owed₀ c : sProp 𝕄) ⊢ credits c := by
  unfold Pipeline.launchCred credits
  rw [bigSep_univ_at _ (SemLoc.reg barSem), launch_bar]
  refine sep_mono_right ?_
  refine (BI.bigSep_subset (t := Finset.univ.map ⟨recvLoc, recvLoc_injective⟩) fun x hx => ?_).trans ?_
  · obtain ⟨t, -, rfl⟩ := Finset.mem_map.mp hx
    exact Finset.mem_erase.mpr ⟨dma_ne_bar _, Finset.mem_univ _⟩
  · rw [bigSep_map]
    exact Entails.of_eq (bigSep_congr fun t _ => congrArg cred (launch_cell c t))

/-! ## The launch theorem's conditions -/

theorem share_eq (w : Fin cfg0.W) : (dats m ρ 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred owed₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit : (dats m ρ 0 c).Φ (Fin.last cfg0.N) ⊢ iprop(unscopedSems0 c ∗ own0 c ∗ Pipeline.scopedRest cfg0.spec c) := by
  rw [show (dats m ρ 0 c).Φ (Fin.last cfg0.N) = Φ₁ c from rfl, scopedRest0_eq, unscopedSems0_eq]
  unfold Φ₁ scratch zeros
  iintro ⟨Hr, HZ, HB⟩
  isplitl [HB]; · iexact HB
  isplitl [HZ]
  · iapply (Entails.of_eq (show (bigSep Finset.univ fun tb : T × Bool => (zero c tb : sProp 𝕄)) = own0 c from rfl))
    iexact HZ
  iexact Hr

theorem waits : (levAts L lv : sProp 𝕄) ⊢ Pipeline.cellsWaits cfgs (dats m ρ) () 0 c :=
  Pipeline.cellsWaits_intro cfgs (dats m ρ) () 0 c fun w s t =>
    mayWait_stage c _ (fun ⟨tb, h⟩ => stage_not_dma w s tb h.symm) _ (by
      rcases t with ⟨_ | _, ht⟩
      · exact Or.inl rfl
      · exact Or.inr rfl)

/-! ## The run -/

/-- What an array holds in the end. -/
def finalA (w : Fin cfg0.W) : Buf (Elt F) ((cfg0.win w).arr.view.loc (c : Thread nD τ)) := (dats m ρ 0 c).arrAt w cfg0.N

/-- Every array holds in the end what it is to hold. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with every semaphore at zero the program of all devices ends, with every array as it is to be and
    every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds in the end what it held. -/
theorem finalA_x : finalA m ρ c (0 : Fin 2) = (s₀ m ρ).mem (win0_0.arr.view.loc (c : Thread nD τ)) :=
  (dats (F := F) m ρ 0 c).arrAt_in (0 : Fin 2) rfl _

end Cert.KernelIdeal.RingSum

end

end
-- ==== Proof.Value.lean ====
module

public import proofs.«01_k».proof.Proof.Launch
public import proofs.«01_k».proof.Proof.Gen.ReferenceIdeal
public import Idealize.ShloMosaic.Lib.Layout
public import Idealize.ShloMosaic.Lib.Pointwise
public import Idealize.ShloMosaic.Lib.Pipeline.Value
public import Idealize.ShloMosaic.PureOps.Ideal.Laws

/-!
# The value of the result

With real arithmetic, what a device's ring adds up is the sum of the four blocks of the whole argument, so each
device ends with its column block of that sum.
-/

@[expose] public section

noncomputable section

namespace Cert.KernelIdeal.RingSum

open Cert.KernelIdeal Cert.KernelIdeal.Gen
open Idealize.ShloMosaic
open Idealize.ShloMosaic.TcCoe

/-! ## Reading a block -/

section Reading

variable {F : FTy → Type} [FloatOps F]
variable (m : (ℓ : Loc nD τ sig) → Buf (Elt F) ℓ) (ρ : Dev nD → PrngReg) (c : Dev nD)

/-- The result's array is the finished result. -/
theorem finalA_out : finalA m ρ c (1 : Fin 2) = outAt m ρ c := by
  have hz : (fun a => (win0_1.index (0 : Fin 1)) a * main_v1.ty.shape.size a) = fun _ => 0 := funext fun a => by fin_cases a <;> decide
  refine (Memref.read_access_unit_zero (Elt F) main_v1 hz (fun a => by fin_cases a <;> decide) _).symm.trans ?_
  refine (congrArg ((win0_1.blk (0 : Fin 1)).view.read (Elt F))
    (((dats m ρ 0 c).arrAt_succ (1 : Fin 2) (0 : Fin 1)).trans (if_pos (by decide)))).trans ?_
  exact View.read_write_univ _ _

/-- The staged argument is the device's argument. -/
theorem xv_eq : xv m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

/-- A block of the argument at offsets `off`, element by element. -/
theorem block_at (X : S1x1024x2048.Idx → F .f32) (off : Fin 3 → ℕ) (h : ∀ a, off a + S1x128x128.size a ≤ S1x1024x2048.size a)
    (y : S128x128.Idx) (J : S1x1024x2048.Idx) (h1 : (J 1).val = off 1 + (y 0).val) (h2 : (J 2).val = off 2 + (y 1).val) :
    xBlk (xM.view.readAt (Elt F) (Rect.unit (s := S1x1024x2048) off S1x128x128.size h).toLoadRect X) y = X J := by
  unfold xBlk
  refine (shapeCast_dropUnit_apply ![128, 128] _ _ y).trans (congrArg X (funext fun a => Fin.ext ?_))
  have hJ : (J 0).val < 1 := (J 0).isLt
  have h0 : off 0 + 1 ≤ 1 := h 0
  match a with
  | 0 => show off 0 + 1 * 0 = (J 0).val; omega
  | 1 => show off 1 + 1 * (y 0).val = (J 1).val; omega
  | 2 => show off 2 + 1 * (y 1).val = (J 2).val; omega

end Reading

/-! ## Where the hops read -/

theorem off1_row : ∀ (c : Dev nD) (p : Fin 4) (s : Fin 3), k0_off1 c (BitVec.ofNat 32 (128 * p.val)) (BitVec.ofNat 32 s.val) 1 = 512 * (xOf c).val + 128 * p.val := by decide +kernel
theorem off1_col : ∀ (c : Dev nD) (p : Fin 4) (s : Fin 3), k0_off1 c (BitVec.ofNat 32 (128 * p.val)) (BitVec.ofNat 32 s.val) 2 = 512 * (yOf c - s.succ).val + 128 * (zOf c).val := by decide +kernel
theorem off2_row : ∀ (c : Dev nD) (p : Fin 4), k0_off2 c (BitVec.ofNat 32 (128 * p.val)) 1 = 512 * (xOf c).val + 128 * p.val := by decide +kernel
theorem off2_col : ∀ (c : Dev nD) (p : Fin 4), k0_off2 c (BitVec.ofNat 32 (128 * p.val)) 2 = 512 * (yOf c).val + 128 * (zOf c).val := by decide +kernel

/-- The block of a device along the cut axis is its second coordinate. -/
theorem lin_y : ∀ c : Dev nD, Layout.meshLin [2, 4, 4] c.val [1] = (yOf c).val := by decide +kernel

theorem xOf_leftY : ∀ c, xOf (leftY c) = xOf c := by decide +kernel
theorem yOf_leftY : ∀ c, yOf (leftY c) = yOf c - 1 := by decide +kernel
theorem zOf_leftY : ∀ c, zOf (leftY c) = zOf c := by decide +kernel
theorem xOf_dev : ∀ x y z, xOf (dev x y z) = x := by decide +kernel
theorem yOf_dev : ∀ x y z, yOf (dev x y z) = y := by decide +kernel
theorem zOf_dev : ∀ x y z, zOf (dev x y z) = z := by decide +kernel

theorem yOf_left2 : ∀ c, yOf (leftY (leftY c)) = yOf c - 2 := by decide +kernel
theorem yOf_left3 : ∀ c, yOf (leftY (leftY (leftY c))) = yOf c - 3 := by decide +kernel

/-! ## The sum -/

section Sum

variable (m : (ℓ : Loc nD τ sig) → Buf (Elt Ideal) ℓ) (ρ : Dev nD → PrngReg)

/-- The whole argument: four blocks. -/
abbrev Whole : Type := (⟨3, ![4, 1024, 2048]⟩ : Shape).Idx → EReal

/-- Every device holds its block of the whole argument. -/
def Holds (A : Whole) : Prop := ∀ c : Dev nD, m ((c : Thread nD τ).loc main_arg0)
    = Layout.blockN ⟨3, ![1, 1024, 2048]⟩ ⟨3, ![4, 1024, 2048]⟩ (Layout.meshBlock [2, 4, 4] ![[1], [], []] c) A

variable {m} {A : Whole} (hA : Holds m A)
include hA

/-- An element of a device's argument is one of the whole argument's block there. -/
theorem arg_at (c : Dev nD) (i : S1x1024x2048.Idx) (R : Fin 1024) (C : Fin 2048) (h1 : (i 1).val = R.val) (h2 : (i 2).val = C.val) :
    xv m ρ c i = A (ix3 (yOf c) R C) := by
  rw [xv_eq, hA c]
  refine congrArg A (funext fun a => Fin.ext ?_)
  have h0 : (i 0).val < 1 := (i 0).isLt
  match a with
  | 0 =>
    show (Layout.meshLin [2, 4, 4] c.val [1]) * 1 + (i 0).val = (yOf c).val
    rw [lin_y]
    omega
  | 1 => show 0 * 1024 + (i 1).val = R.val; omega
  | 2 => show 0 * 2048 + (i 2).val = C.val; omega

/-- What a hop adds, element by element. -/
theorem xT_at (c : Dev nD) (p : Fin 4) (s : Fin 3) (y : S128x128.Idx) (R : Fin 1024) (C : Fin 2048)
    (hR : R.val = 512 * (xOf c).val + 128 * p.val + (y 0).val) (hC : C.val = 512 * (yOf c - s.succ).val + 128 * (zOf c).val + (y 1).val) :
    xT m ρ c p s y = A (ix3 (yOf c) R C) := by
  refine (block_at (xv m ρ c) _ (k0_off1_inb c p s) y (ix3 0 R C) ?_ ?_).trans (arg_at ρ hA c _ R C rfl rfl)
  · rw [off1_row]; exact hR
  · rw [off1_col]; exact hC

/-- What the last hop adds, element by element. -/
theorem xT2_at (c : Dev nD) (p : Fin 4) (y : S128x128.Idx) (R : Fin 1024) (C : Fin 2048)
    (hR : R.val = 512 * (xOf c).val + 128 * p.val + (y 0).val) (hC : C.val = 512 * (yOf c).val + 128 * (zOf c).val + (y 1).val) :
    xT2 m ρ c p y = A (ix3 (yOf c) R C) := by
  refine (block_at (xv m ρ c) _ (k0_off2_inb c p) y (ix3 0 R C) ?_ ?_).trans (arg_at ρ hA c _ R C rfl rfl)
  · rw [off2_row]; exact hR
  · rw [off2_col]; exact hC

omit hA in
/-- Four numbers, added from any one on around the ring. -/
theorem sum_around (f : Fin 4 → EReal) (y : Fin 4) : f (y - 3) + f (y - 2) + f (y - 1) + f y = ∑ k, f k := by
  rw [Fin.sum_univ_four]
  match y with
  | 0 => show f 1 + f 2 + f 3 + f 0 = _; ac_rfl
  | 1 => show f 2 + f 3 + f 0 + f 1 = _; ac_rfl
  | 2 => show f 3 + f 0 + f 1 + f 2 = _; ac_rfl
  | 3 => show f 0 + f 1 + f 2 + f 3 = _; ac_rfl

/-- A finished block is the sum of the four blocks of the whole argument. -/
theorem outT_at (c : Dev nD) (p : Fin 4) (y : S128x128.Idx) (R : Fin 1024) (C : Fin 2048)
    (hR : R.val = 512 * (xOf c).val + 128 * p.val + (y 0).val) (hC : C.val = 512 * (yOf c).val + 128 * (zOf c).val + (y 1).val) :
    outT m ρ c p y = ∑ k : Fin 4, A (ix3 k R C) := by
  have e : ∀ a : Fin 4, a - 1 - Fin.succ (2 : Fin 3) = a ∧ a - 2 - Fin.succ (1 : Fin 3) = a ∧ a - 3 - Fin.succ (0 : Fin 3) = a := by decide
  have h3 := xT_at ρ hA (leftY c) p 2 y R C (by rw [xOf_leftY]; exact hR) (by rw [yOf_leftY, zOf_leftY, (e _).1]; exact hC)
  have h2 := xT_at ρ hA (leftY (leftY c)) p 1 y R C (by rw [xOf_leftY, xOf_leftY]; exact hR)
    (by rw [yOf_left2, zOf_leftY, zOf_leftY, (e _).2.1]; exact hC)
  have h1 := xT_at ρ hA (leftY (leftY (leftY c))) p 0 y R C (by rw [xOf_leftY, xOf_leftY, xOf_leftY]; exact hR)
    (by rw [yOf_left3, zOf_leftY, zOf_leftY, zOf_leftY, (e _).2.2]; exact hC)
  have h0 := xT2_at ρ hA c p y R C hR hC
  rw [yOf_leftY] at h3
  rw [yOf_left2] at h2
  rw [yOf_left3] at h1
  rw [← sum_around (fun k => A (ix3 k R C)) (yOf c), ← h0, ← h1, ← h2, ← h3]
  rfl

/-- The result of a device is its column block of the sum. -/
theorem outAt_at (c : Dev nD) (i : S1024x512.Idx) (R : Fin 1024) (C : Fin 2048) (hR : R.val = (i 0).val) (hC : C.val = 512 * (yOf c).val + (i 1).val) :
    outAt m ρ c i = ∑ k : Fin 4, A (ix3 k R C) := by
  refine outT_at ρ hA _ _ (inBlk i) R C ?_ ?_
  · rw [xOf_dev]
    show R.val = 512 * ((i 0).val / 512) + 128 * ((i 0).val % 512 / 128) + (i 0).val % 128
    omega
  · rw [yOf_dev, zOf_dev]
    show C.val = 512 * (yOf c).val + 128 * ((i 1).val / 128) + (i 1).val % 128
    omega

end Sum

/-! ## The reference -/

/-- The plain sum of the whole argument over its first axis, as the reference computes it. -/
abbrev plainSum (A : Whole) : (⟨2, ![1024, 2048]⟩ : Shape).Idx → EReal :=
  Host.reduceAdd (F := Ideal) (φ := .f32) A (constant (F := Ideal) Cert.ReferenceIdeal.S_ .f32 0x00000000#32)
    Cert.ReferenceIdeal.Gen.reducesTo_S4x1024x2048_S1024x2048_d0 Cert.ReferenceIdeal.Gen.h_S_

/-- It is the sum of four numbers at every element. -/
theorem plainSum_at (A : Whole) (j : (⟨2, ![1024, 2048]⟩ : Shape).Idx) (R : Fin 1024) (C : Fin 2048) (hR : (j 0).val = R.val) (hC : (j 1).val = C.val) :
    plainSum A j = ∑ k : Fin 4, A (ix3 k R C) := by
  obtain rfl : ⟨(j 0).val, (j 0).isLt⟩ = R := Fin.ext hR
  obtain rfl : ⟨(j 1).val, (j 1).isLt⟩ = C := Fin.ext hC
  unfold plainSum
  simp only [pointwise]
  exact zero_add _

/-- Every device ends with its column block of the plain sum. -/
theorem result_eq {m : (ℓ : Loc nD τ sig) → Buf (Elt Ideal) ℓ} (ρ : Dev nD → PrngReg) {A : Whole} (hA : Holds m A) (c : Dev nD) :
    finalA m ρ c (1 : Fin 2) = Layout.blockN ⟨2, ![1024, 512]⟩ ⟨2, ![1024, 2048]⟩ (Layout.meshBlock [2, 4, 4] ![[], [1]] c) (plainSum A) := by
  rw [finalA_out]
  refine funext fun i : S1024x512.Idx => ?_
  have h0 : (i 0).val < 1024 := (i 0).isLt
  have h1 : (i 1).val < 512 := (i 1).isLt
  have hy := (yOf c).isLt
  refine (outAt_at ρ hA c i ⟨(i 0).val, h0⟩ ⟨512 * (yOf c).val + (i 1).val, by omega⟩ rfl rfl).trans
    (plainSum_at A _ _ _ ?_ ?_).symm
  · show 0 * 1024 + (i 0).val = (i 0).val; omega
  · show Layout.meshLin [2, 4, 4] c.val [1] * 512 + (i 1).val = 512 * (yOf c).val + (i 1).val
    rw [lin_y]
    omega

end Cert.KernelIdeal.RingSum

end

end
-- ==== Proof.lean ====
module

public import proofs.«01_k».proof.Defs
public import proofs.«01_k».proof.Proof.Bits.Launch
public import proofs.«01_k».proof.Proof.Launch
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

/-!
# The claims

The kernel as printed and the kernel with real arithmetic both run, keep their argument and leave every semaphore
at zero; so does the reference; and with real arithmetic every device ends with its block of the reference's result.
-/

@[expose] public section

noncomputable section

namespace Cert.Proof

open Idealize.ShloMosaic Idealize.SL.Sem

/-- The kernel as printed runs, keeps its argument, and leaves every semaphore at zero. -/
theorem frame_kernel : Cert.quiescent_Kernel := by
  intro m ρ _
  exact (θ_run Cert.Kernel.defs _ _).mono
    (fun _ h => ⟨fun c => (h.1 c (0 : Fin 2)).trans (Cert.Kernel.RingSum.finalA_x m ρ c), h.2⟩) (Cert.Kernel.RingSum.run_main (F := Bits) m ρ)

/-- So does the kernel with real arithmetic. -/
theorem frame_ideal : Cert.quiescent_KernelIdeal := by
  intro m ρ _
  exact (θ_run Cert.KernelIdeal.defs _ _).mono
    (fun _ h => ⟨fun c => (h.1 c (0 : Fin 2)).trans (Cert.KernelIdeal.RingSum.finalA_x m ρ c), h.2⟩) (Cert.KernelIdeal.RingSum.run_main (F := Ideal) m ρ)

/-- The reference runs and keeps its argument; it has no semaphore. -/
theorem frame_reference : Cert.quiescent_ReferenceIdeal := by
  intro m ρ _
  exact (θ_run Cert.ReferenceIdeal.defs _ _).mono
    (fun r h => ⟨fun c => (h c).2, sem_eq_zero_of_no_sems (by decide) r.2⟩) (Cert.ReferenceIdeal.Value.run (F := Ideal) m ρ)

/-- With real arithmetic every device ends with its block of the reference's sum. -/
theorem value : Cert.algebraic_KernelIdeal_ReferenceIdeal := by
  intro m ρ m' ρ' _ hA
  refine ⟨Cert.KernelIdeal.RingSum.plainSum (m' ((0 : Dev Cert.ReferenceIdeal.nD).tc.loc Cert.ReferenceIdeal.main_arg0)), ?_, ?_⟩
  · exact (θ_run Cert.KernelIdeal.defs _ _).mono
      (fun _ h c => ⟨(h.1 c (1 : Fin 2)).trans (Cert.KernelIdeal.RingSum.result_eq ρ hA c),
        (h.1 c (0 : Fin 2)).trans (Cert.KernelIdeal.RingSum.finalA_x m ρ c)⟩)
      (Cert.KernelIdeal.RingSum.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
